-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S16x4096x256 : Shape := ⟨3, ![16, 4096, 256]⟩
abbrev S16x4096x4 : Shape := ⟨3, ![16, 4096, 4]⟩
abbrev S4 : Shape := ⟨1, ![4]⟩
abbrev S1x1x4 : Shape := ⟨3, ![1, 1, 4]⟩
abbrev S16x4096x516 : Shape := ⟨3, ![16, 4096, 516]⟩
abbrev S_ : Shape := ⟨0, ![]⟩

class Facts : Prop where
  bcast_S4_S1x1x4_2 : S4.BroadcastsInDim S1x1x4 (![2] : Fin 1 → Fin S1x1x4.rank)
  bcast_S1x1x4_S16x4096x4_0_1_2 : S1x1x4.BroadcastsInDim S16x4096x4 (![0, 1, 2] : Fin 3 → Fin S16x4096x4.rank)
  concatenates_S16x4096x256_S16x4096x256_S16x4096x4_S16x4096x516_d2 : Shape.Concatenates [S16x4096x256, S16x4096x256, S16x4096x4] S16x4096x516 2
  bcast_S_S16x4096x516 : S_.BroadcastsInDim S16x4096x516 (![] : Fin 0 → Fin S16x4096x516.rank)

variable [Facts]

def fn {F : FTy → Type} [FloatOps F] (main_arg0 : FVec F S16x4096x256 .f32) (main_arg1 : FVec F S16x4096x256 .f32) (main_arg2 : FVec F S16x4096x256 .f32) (main_arg3 : FVec F S16x4096x4 .f32) (main_arg4 : FVec F S4 .f32) : IVec S16x4096x516 1 :=
  let main_v0 : FVec F S1x1x4 .f32 := broadcastInDim S1x1x4 ![2] bcast_S4_S1x1x4_2 main_arg4
  let main_v1 : FVec F S16x4096x4 .f32 := broadcastInDim S16x4096x4 ![0, 1, 2] bcast_S1x1x4_S16x4096x4_0_1_2 main_v0
  let main_v2 : FVec F S16x4096x4 .f32 := addf main_arg3 main_v1
  let main_v3 : FVec F S16x4096x516 .f32 := concatenate S16x4096x516 2 [⟨S16x4096x256, main_arg0⟩, ⟨S16x4096x256, main_arg1⟩, ⟨S16x4096x4, main_v2⟩] concatenates_S16x4096x256_S16x4096x256_S16x4096x4_S16x4096x516_d2
  let main_v4 : FVec F S16x4096x516 .f32 := Host.absf main_v3
  let main_cst : FVec F S_ .f32 := constant S_ .f32 0x7F800000#32
  let main_v5 : FVec F S16x4096x516 .f32 := broadcastInDim S16x4096x516 ![] bcast_S_S16x4096x516 main_cst
  let main_v6 : IVec S16x4096x516 1 := cmpf .olt main_v4 main_v5
  main_v6
-- ==== Kernel.lean ====
abbrev S16x4096x256 : Shape := ⟨3, ![16, 4096, 256]⟩
abbrev S16x4096x4 : Shape := ⟨3, ![16, 4096, 4]⟩
abbrev S4 : Shape := ⟨1, ![4]⟩
abbrev S_ : Shape := ⟨0, ![]⟩
abbrev S65536x256 : Shape := ⟨2, ![65536, 256]⟩
abbrev S65536x768 : Shape := ⟨2, ![65536, 768]⟩
abbrev S16x4x4096 : Shape := ⟨3, ![16, 4, 4096]⟩
abbrev S64x4096 : Shape := ⟨2, ![64, 4096]⟩
abbrev S1x4 : Shape := ⟨2, ![1, 4]⟩
abbrev S16x4 : Shape := ⟨2, ![16, 4]⟩
abbrev S64 : Shape := ⟨1, ![64]⟩
abbrev S64x1 : Shape := ⟨2, ![64, 1]⟩
abbrev S3x64x4096 : Shape := ⟨3, ![3, 64, 4096]⟩
abbrev S1x64x4096 : Shape := ⟨3, ![1, 64, 4096]⟩
abbrev S3x16x4x4096 : Shape := ⟨4, ![3, 16, 4, 4096]⟩
abbrev S16x4096x4x3 : Shape := ⟨4, ![16, 4096, 4, 3]⟩
abbrev S65536x4x3 : Shape := ⟨3, ![65536, 4, 3]⟩
abbrev S65536x4x58 : Shape := ⟨3, ![65536, 4, 58]⟩
abbrev S65536x4x64 : Shape := ⟨3, ![65536, 4, 64]⟩
abbrev S65536x4x128 : Shape := ⟨3, ![65536, 4, 128]⟩
abbrev S65536x512 : Shape := ⟨2, ![65536, 512]⟩
abbrev S16x8x512x256 : Shape := ⟨4, ![16, 8, 512, 256]⟩
abbrev S16x8x256x512 : Shape := ⟨4, ![16, 8, 256, 512]⟩
abbrev S256x512 : Shape := ⟨2, ![256, 512]⟩
abbrev S4096x512 : Shape := ⟨2, ![4096, 512]⟩
abbrev S1x8x256x512 : Shape := ⟨4, ![1, 8, 256, 512]⟩
abbrev S256x256 : Shape := ⟨2, ![256, 256]⟩
abbrev S4096x1024 : Shape := ⟨2, ![4096, 1024]⟩
abbrev S512x256 : Shape := ⟨2, ![512, 256]⟩
abbrev S8x256 : Shape := ⟨2, ![8, 256]⟩
abbrev S512x128 : Shape := ⟨2, ![512, 128]⟩
abbrev S256x128 : Shape := ⟨2, ![256, 128]⟩
abbrev S64x8x256 : Shape := ⟨3, ![64, 8, 256]⟩
abbrev S256 : Shape := ⟨1, ![256]⟩
abbrev S1x256 : Shape := ⟨2, ![1, 256]⟩
abbrev S64x256 : Shape := ⟨2, ![64, 256]⟩
abbrev S1x1x256x512 : Shape := ⟨4, ![1, 1, 256, 512]⟩
abbrev S64x512 : Shape := ⟨2, ![64, 512]⟩

abbrev nBuf : Space → Nat
  | .hbm => 40
  | .vmem => 12
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S16x4096x4, .f32⟩
  | .hbm, ⟨4, _⟩ => ⟨S4, .f32⟩
  | .hbm, ⟨5, _⟩ => ⟨S_, .f32⟩
  | .hbm, ⟨6, _⟩ => ⟨S16x4096x256, .f32⟩
  | .hbm, ⟨7, _⟩ => ⟨S16x4096x256, .f32⟩
  | .hbm, ⟨8, _⟩ => ⟨S65536x256, .f32⟩
  | .hbm, ⟨9, _⟩ => ⟨S65536x256, .f32⟩
  | .hbm, ⟨10, _⟩ => ⟨S65536x256, .f32⟩
  | .hbm, ⟨11, _⟩ => ⟨S65536x768, .f32⟩
  | .hbm, ⟨12, _⟩ => ⟨S65536x768, .bf16⟩
  | .hbm, ⟨13, _⟩ => ⟨S16x4x4096, .f32⟩
  | .hbm, ⟨14, _⟩ => ⟨S64x4096, .f32⟩
  | .hbm, ⟨15, _⟩ => ⟨S1x4, .f32⟩
  | .hbm, ⟨16, _⟩ => ⟨S16x4, .f32⟩
  | .hbm, ⟨17, _⟩ => ⟨S64, .f32⟩
  | .hbm, ⟨18, _⟩ => ⟨S64x1, .f32⟩
  | .hbm, ⟨19, _⟩ => ⟨S3x64x4096, .bf16⟩
  | .hbm, ⟨20, _⟩ => ⟨S3x16x4x4096, .bf16⟩
  | .hbm, ⟨21, _⟩ => ⟨S16x4096x4x3, .bf16⟩
  | .hbm, ⟨22, _⟩ => ⟨S65536x4x3, .bf16⟩
  | .hbm, ⟨23, _⟩ => ⟨S_, .bf16⟩
  | .hbm, ⟨24, _⟩ => ⟨S65536x4x3, .bf16⟩
  | .hbm, ⟨25, _⟩ => ⟨S_, .bf16⟩
  | .hbm, ⟨26, _⟩ => ⟨S65536x4x58, .bf16⟩
  | .hbm, ⟨27, _⟩ => ⟨S65536x256, .bf16⟩
  | .hbm, ⟨28, _⟩ => ⟨S65536x4x64, .bf16⟩
  | .hbm, ⟨29, _⟩ => ⟨S65536x256, .bf16⟩
  | .hbm, ⟨30, _⟩ => ⟨S65536x4x64, .bf16⟩
  | .hbm, ⟨31, _⟩ => ⟨S65536x4x128, .bf16⟩
  | .hbm, ⟨32, _⟩ => ⟨S65536x512, .bf16⟩
  | .hbm, ⟨33, _⟩ => ⟨S65536x4x3, .bf16⟩
  | .hbm, ⟨34, _⟩ => ⟨S65536x4x128, .bf16⟩
  | .hbm, ⟨35, _⟩ => ⟨S65536x512, .bf16⟩
  | .hbm, ⟨36, _⟩ => ⟨S65536x256, .bf16⟩
  | .hbm, ⟨37, _⟩ => ⟨S16x8x512x256, .bf16⟩
  | .hbm, ⟨38, _⟩ => ⟨S16x8x256x512, .bf16⟩
  | .hbm, ⟨39, _⟩ => ⟨S65536x256, .bf16⟩
  | .local _ .vmem, ⟨0, _⟩ => ⟨S64x4096, .f32⟩
  | .local _ .vmem, ⟨1, _⟩ => ⟨S64x1, .f32⟩
  | .local _ .vmem, ⟨2, _⟩ => ⟨S3x64x4096, .bf16⟩
  | .local _ .vmem, ⟨3, _⟩ => ⟨S256x512, .bf16⟩
  | .local _ .vmem, ⟨4, _⟩ => ⟨S256x512, .bf16⟩
  | .local _ .vmem, ⟨5, _⟩ => ⟨S4096x512, .bf16⟩
  | .local _ .vmem, ⟨6, _⟩ => ⟨S4096x512, .bf16⟩
  | .local _ .vmem, ⟨7, _⟩ => ⟨S1x8x256x512, .bf16⟩
  | .local _ .vmem, ⟨8, _⟩ => ⟨S1x8x256x512, .bf16⟩
  | .local _ .vmem, ⟨9, _⟩ => ⟨S256x256, .bf16⟩
  | .local _ .vmem, ⟨10, _⟩ => ⟨S256x256, .bf16⟩
  | .local _ .vmem, ⟨11, _⟩ => ⟨S4096x1024, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![16, 16], ![false, false]⟩

@[reducible] def k1_t1_loop (i : grid1.Coords) : Scf.Loop 32 :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_11 : BitVec 32 := 1#32
  ⟨c0_i32_9, v29, c1_i32_11⟩
def k1_mult1 (i : grid1.Coords) (k1_t1 : Fin (k1_t1_loop i).trips) : BitVec 32 :=
  let c0_i32_9 : BitVec 32 := 0#32
  let c1_i32_11 : BitVec 32 := 1#32
  let arg7 : BitVec 32 := Scf.iv c0_i32_9 c1_i32_11 k1_t1
  let c512_i32_65 : BitVec 32 := 512#32
  let v166 : BitVec 32 := Scalar.muli arg7 c512_i32_65
  v166
def k1_off1 (i : grid1.Coords) (k1_t1 : Fin (k1_t1_loop i).trips) : Fin 2 → Nat :=
  let c0_i32_9 : BitVec 32 := 0#32
  let c1_i32_11 : BitVec 32 := 1#32
  let arg7 : BitVec 32 := Scf.iv c0_i32_9 c1_i32_11 k1_t1
  let c512_i32_65 : BitVec 32 := 512#32
  let v166 : BitVec 32 := Scalar.muli arg7 c512_i32_65
  let v167 : BitVec 32 := v166
  let v168 : Index := Scalar.indexCast v167
  let c0_66 : Index := 0#32
  ![v168.toNat, 0]
def k1_off2 (i : grid1.Coords) (k1_t1 : Fin (k1_t1_loop i).trips) : Fin 2 → Nat :=
  let c0_i32_9 : BitVec 32 := 0#32
  let c1_i32_11 : BitVec 32 := 1#32
  let arg7 : BitVec 32 := Scf.iv c0_i32_9 c1_i32_11 k1_t1
  let c512_i32_65 : BitVec 32 := 512#32
  let v166 : BitVec 32 := Scalar.muli arg7 c512_i32_65
  let v167 : BitVec 32 := v166
  let v174 : Index := Scalar.indexCast v167
  let c0_70 : Index := 0#32
  ![v174.toNat, 0]
def k1_off3 (i : grid1.Coords) (k1_t1 : Fin (k1_t1_loop i).trips) : Fin 2 → Nat :=
  let c0_i32_9 : BitVec 32 := 0#32
  let c1_i32_11 : BitVec 32 := 1#32
  let arg7 : BitVec 32 := Scf.iv c0_i32_9 c1_i32_11 k1_t1
  let c512_i32_65 : BitVec 32 := 512#32
  let v166 : BitVec 32 := Scalar.muli arg7 c512_i32_65
  let v167 : BitVec 32 := v166
  let v181 : Index := Scalar.indexCast v167
  let c128_72 : Index := 128#32
  ![v181.toNat, 128]
def k1_off4 (i : grid1.Coords) (k1_t1 : Fin (k1_t1_loop i).trips) : Fin 2 → Nat :=
  let c0_i32_9 : BitVec 32 := 0#32
  let c1_i32_11 : BitVec 32 := 1#32
  let arg7 : BitVec 32 := Scf.iv c0_i32_9 c1_i32_11 k1_t1
  let c512_i32_65 : BitVec 32 := 512#32
  let v166 : BitVec 32 := Scalar.muli arg7 c512_i32_65
  let v167 : BitVec 32 := v166
  let v187 : Index := Scalar.indexCast v167
  let c256_76 : Index := 256#32
  ![v187.toNat, 256]
def k1_off5 (i : grid1.Coords) (k1_t1 : Fin (k1_t1_loop i).trips) : Fin 2 → Nat :=
  let c0_i32_9 : BitVec 32 := 0#32
  let c1_i32_11 : BitVec 32 := 1#32
  let arg7 : BitVec 32 := Scf.iv c0_i32_9 c1_i32_11 k1_t1
  let c512_i32_65 : BitVec 32 := 512#32
  let v166 : BitVec 32 := Scalar.muli arg7 c512_i32_65
  let v167 : BitVec 32 := v166
  let v194 : Index := Scalar.indexCast v167
  let c256_78 : Index := 256#32
  ![v194.toNat, 256]
def k1_off6 (i : grid1.Coords) (k1_t1 : Fin (k1_t1_loop i).trips) : Fin 2 → Nat :=
  let c0_i32_9 : BitVec 32 := 0#32
  let c1_i32_11 : BitVec 32 := 1#32
  let arg7 : BitVec 32 := Scf.iv c0_i32_9 c1_i32_11 k1_t1
  let c512_i32_65 : BitVec 32 := 512#32
  let v166 : BitVec 32 := Scalar.muli arg7 c512_i32_65
  let v167 : BitVec 32 := v166
  let v200 : Index := Scalar.indexCast v167
  let c512_82 : Index := 512#32
  ![v200.toNat, 512]
def k1_off7 (i : grid1.Coords) (k1_t1 : Fin (k1_t1_loop i).trips) : Fin 2 → Nat :=
  let c0_i32_9 : BitVec 32 := 0#32
  let c1_i32_11 : BitVec 32 := 1#32
  let arg7 : BitVec 32 := Scf.iv c0_i32_9 c1_i32_11 k1_t1
  let c512_i32_65 : BitVec 32 := 512#32
  let v166 : BitVec 32 := Scalar.muli arg7 c512_i32_65
  let v167 : BitVec 32 := v166
  let v207 : Index := Scalar.indexCast v167
  let c384_84 : Index := 384#32
  ![v207.toNat, 384]
def k1_off8 (i : grid1.Coords) (k1_t1 : Fin (k1_t1_loop i).trips) : Fin 2 → Nat :=
  let c0_i32_9 : BitVec 32 := 0#32
  let c1_i32_11 : BitVec 32 := 1#32
  let arg7 : BitVec 32 := Scf.iv c0_i32_9 c1_i32_11 k1_t1
  let c512_i32_65 : BitVec 32 := 512#32
  let v166 : BitVec 32 := Scalar.muli arg7 c512_i32_65
  let v167 : BitVec 32 := v166
  let v213 : Index := Scalar.indexCast v167
  let c768_88 : Index := 768#32
  ![v213.toNat, 768]
@[reducible] def k1_t2_loop (i : grid1.Coords) : Scf.Loop 32 :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let v26 : BitVec 32 := Scalar.addi c0_i32_9 v25
  let c1_i32_12 : BitVec 32 := 1#32
  ⟨v29, v26, c1_i32_12⟩
def k1_mult2 (i : grid1.Coords) (k1_t2 : Fin (k1_t2_loop i).trips) : BitVec 32 :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k1_t2
  let c512_i32_65 : BitVec 32 := 512#32
  let v166 : BitVec 32 := Scalar.muli arg7 c512_i32_65
  v166
def k1_off9 (i : grid1.Coords) (k1_t2 : Fin (k1_t2_loop i).trips) : Fin 2 → Nat :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k1_t2
  let c512_i32_65 : BitVec 32 := 512#32
  let v166 : BitVec 32 := Scalar.muli arg7 c512_i32_65
  let v167 : BitVec 32 := v166
  let v168 : Index := Scalar.indexCast v167
  let c0_66 : Index := 0#32
  ![v168.toNat, 0]
def k1_off10 (i : grid1.Coords) (k1_t2 : Fin (k1_t2_loop i).trips) : Fin 2 → Nat :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k1_t2
  let c512_i32_65 : BitVec 32 := 512#32
  let v166 : BitVec 32 := Scalar.muli arg7 c512_i32_65
  let v167 : BitVec 32 := v166
  let v174 : Index := Scalar.indexCast v167
  let c0_70 : Index := 0#32
  ![v174.toNat, 0]
def k1_off11 (i : grid1.Coords) (k1_t2 : Fin (k1_t2_loop i).trips) : Fin 2 → Nat :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k1_t2
  let c512_i32_65 : BitVec 32 := 512#32
  let v166 : BitVec 32 := Scalar.muli arg7 c512_i32_65
  let v167 : BitVec 32 := v166
  let v181 : Index := Scalar.indexCast v167
  let c128_72 : Index := 128#32
  ![v181.toNat, 128]
def k1_off12 (i : grid1.Coords) (k1_t2 : Fin (k1_t2_loop i).trips) : Fin 2 → Nat :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k1_t2
  let c512_i32_65 : BitVec 32 := 512#32
  let v166 : BitVec 32 := Scalar.muli arg7 c512_i32_65
  let v167 : BitVec 32 := v166
  let v187 : Index := Scalar.indexCast v167
  let c256_76 : Index := 256#32
  ![v187.toNat, 256]
def k1_off13 (i : grid1.Coords) (k1_t2 : Fin (k1_t2_loop i).trips) : Fin 2 → Nat :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k1_t2
  let c512_i32_65 : BitVec 32 := 512#32
  let v166 : BitVec 32 := Scalar.muli arg7 c512_i32_65
  let v167 : BitVec 32 := v166
  let v194 : Index := Scalar.indexCast v167
  let c256_78 : Index := 256#32
  ![v194.toNat, 256]
def k1_off14 (i : grid1.Coords) (k1_t2 : Fin (k1_t2_loop i).trips) : Fin 2 → Nat :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k1_t2
  let c512_i32_65 : BitVec 32 := 512#32
  let v166 : BitVec 32 := Scalar.muli arg7 c512_i32_65
  let v167 : BitVec 32 := v166
  let v200 : Index := Scalar.indexCast v167
  let c512_82 : Index := 512#32
  ![v200.toNat, 512]
def k1_off15 (i : grid1.Coords) (k1_t2 : Fin (k1_t2_loop i).trips) : Fin 2 → Nat :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k1_t2
  let c512_i32_65 : BitVec 32 := 512#32
  let v166 : BitVec 32 := Scalar.muli arg7 c512_i32_65
  let v167 : BitVec 32 := v166
  let v207 : Index := Scalar.indexCast v167
  let c384_84 : Index := 384#32
  ![v207.toNat, 384]
def k1_off16 (i : grid1.Coords) (k1_t2 : Fin (k1_t2_loop i).trips) : Fin 2 → Nat :=
  let c0_i32_9 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_8 : BitVec 32 := 1#32
  let v24 : BitVec 32 := Scalar.subi v17 c1_i32_8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k1_t2
  let c512_i32_65 : BitVec 32 := 512#32
  let v166 : BitVec 32 := Scalar.muli arg7 c512_i32_65
  let v167 : BitVec 32 := v166
  let v213 : Index := Scalar.indexCast v167
  let c768_88 : Index := 768#32
  ![v213.toNat, 768]
def k1_mult3 (i : grid1.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_13 : BitVec 32 := 1#32
  let v32 : BitVec 32 := Scalar.subi v17 c1_i32_13
  let c512_i32 : BitVec 32 := 512#32
  let v33 : BitVec 32 := Scalar.muli v32 c512_i32
  v33
def k1_off17 (i : grid1.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_13 : BitVec 32 := 1#32
  let v32 : BitVec 32 := Scalar.subi v17 c1_i32_13
  let c512_i32 : BitVec 32 := 512#32
  let v33 : BitVec 32 := Scalar.muli v32 c512_i32
  let v34 : BitVec 32 := v33
  let v35 : Index := Scalar.indexCast v34
  let c0 : Index := 0#32
  ![v35.toNat, 0]
def k1_off18 (i : grid1.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_13 : BitVec 32 := 1#32
  let v32 : BitVec 32 := Scalar.subi v17 c1_i32_13
  let c512_i32 : BitVec 32 := 512#32
  let v33 : BitVec 32 := Scalar.muli v32 c512_i32
  let v34 : BitVec 32 := v33
  let v50 : Index := Scalar.indexCast v34
  let c0_19 : Index := 0#32
  ![v50.toNat, 0]
def k1_off19 (i : grid1.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_13 : BitVec 32 := 1#32
  let v32 : BitVec 32 := Scalar.subi v17 c1_i32_13
  let c512_i32 : BitVec 32 := 512#32
  let v33 : BitVec 32 := Scalar.muli v32 c512_i32
  let v34 : BitVec 32 := v33
  let v57 : Index := Scalar.indexCast v34
  let c128 : Index := 128#32
  ![v57.toNat, 128]
def k1_off20 (i : grid1.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_13 : BitVec 32 := 1#32
  let v32 : BitVec 32 := Scalar.subi v17 c1_i32_13
  let c512_i32 : BitVec 32 := 512#32
  let v33 : BitVec 32 := Scalar.muli v32 c512_i32
  let v34 : BitVec 32 := v33
  let v72 : Index := Scalar.indexCast v34
  let c256 : Index := 256#32
  ![v72.toNat, 256]
def k1_off21 (i : grid1.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_13 : BitVec 32 := 1#32
  let v32 : BitVec 32 := Scalar.subi v17 c1_i32_13
  let c512_i32 : BitVec 32 := 512#32
  let v33 : BitVec 32 := Scalar.muli v32 c512_i32
  let v34 : BitVec 32 := v33
  let v79 : Index := Scalar.indexCast v34
  let c256_28 : Index := 256#32
  ![v79.toNat, 256]
def k1_off22 (i : grid1.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_13 : BitVec 32 := 1#32
  let v32 : BitVec 32 := Scalar.subi v17 c1_i32_13
  let c512_i32 : BitVec 32 := 512#32
  let v33 : BitVec 32 := Scalar.muli v32 c512_i32
  let v34 : BitVec 32 := v33
  let v94 : Index := Scalar.indexCast v34
  let c512 : Index := 512#32
  ![v94.toNat, 512]
def k1_off23 (i : grid1.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_13 : BitVec 32 := 1#32
  let v32 : BitVec 32 := Scalar.subi v17 c1_i32_13
  let c512_i32 : BitVec 32 := 512#32
  let v33 : BitVec 32 := Scalar.muli v32 c512_i32
  let v34 : BitVec 32 := v33
  let v101 : Index := Scalar.indexCast v34
  let c384 : Index := 384#32
  ![v101.toNat, 384]
def k1_off24 (i : grid1.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_13 : BitVec 32 := 1#32
  let v32 : BitVec 32 := Scalar.subi v17 c1_i32_13
  let c512_i32 : BitVec 32 := 512#32
  let v33 : BitVec 32 := Scalar.muli v32 c512_i32
  let v34 : BitVec 32 := v33
  let v116 : Index := Scalar.indexCast v34
  let c768 : Index := 768#32
  ![v116.toNat, 768]
@[reducible] def k1_t3_loop (i : grid1.Coords) : Scf.Loop 32 :=
  let c0_i32_55 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v139 : BitVec 32 := Scalar.subi v17 c0_i32_55
  let c1_i32_56 : BitVec 32 := 1#32
  let v141 : BitVec 32 := Scalar.divsi v139 c1_i32_56
  let v142 : BitVec 32 := Scalar.muli v141 c1_i32_56
  let v143 : BitVec 32 := Scalar.addi c0_i32_55 v142
  let c1_i32_57 : BitVec 32 := 1#32
  ⟨c0_i32_55, v143, c1_i32_57⟩
def k1_mult4 (i : grid1.Coords) (k1_t3 : Fin (k1_t3_loop i).trips) : BitVec 32 :=
  let c0_i32_55 : BitVec 32 := 0#32
  let c1_i32_57 : BitVec 32 := 1#32
  let arg7 : BitVec 32 := Scf.iv c0_i32_55 c1_i32_57 k1_t3
  let c512_i32_65 : BitVec 32 := 512#32
  let v166 : BitVec 32 := Scalar.muli arg7 c512_i32_65
  v166
def k1_off25 (i : grid1.Coords) (k1_t3 : Fin (k1_t3_loop i).trips) : Fin 4 → Nat :=
  let c0_66 : Index := 0#32
  let c0_i32_55 : BitVec 32 := 0#32
  let c1_i32_57 : BitVec 32 := 1#32
  let arg7 : BitVec 32 := Scf.iv c0_i32_55 c1_i32_57 k1_t3
  let v168 : Index := Scalar.indexCast arg7
  let c0_67 : Index := 0#32
  let c0_68 : Index := 0#32
  ![0, v168.toNat, 0, 0]
def k1_off26 (i : grid1.Coords) (k1_t3 : Fin (k1_t3_loop i).trips) : Fin 2 → Nat :=
  let c0_i32_55 : BitVec 32 := 0#32
  let c1_i32_57 : BitVec 32 := 1#32
  let arg7 : BitVec 32 := Scf.iv c0_i32_55 c1_i32_57 k1_t3
  let c512_i32_65 : BitVec 32 := 512#32
  let v166 : BitVec 32 := Scalar.muli arg7 c512_i32_65
  let v167 : BitVec 32 := v166
  let v171 : Index := Scalar.indexCast v167
  let c0_69 : Index := 0#32
  ![v171.toNat, 0]
def k1_off27 (i : grid1.Coords) (k1_t3 : Fin (k1_t3_loop i).trips) : Fin 2 → Nat :=
  let c0_i32_55 : BitVec 32 := 0#32
  let c1_i32_57 : BitVec 32 := 1#32
  let arg7 : BitVec 32 := Scf.iv c0_i32_55 c1_i32_57 k1_t3
  let c512_i32_65 : BitVec 32 := 512#32
  let v166 : BitVec 32 := Scalar.muli arg7 c512_i32_65
  let v167 : BitVec 32 := v166
  let v183 : Index := Scalar.indexCast v167
  let c256_72 : Index := 256#32
  ![v183.toNat, 256]
def k1_off28 (i : grid1.Coords) (k1_t3 : Fin (k1_t3_loop i).trips) : Fin 2 → Nat :=
  let c0_i32_55 : BitVec 32 := 0#32
  let c1_i32_57 : BitVec 32 := 1#32
  let arg7 : BitVec 32 := Scf.iv c0_i32_55 c1_i32_57 k1_t3
  let c512_i32_65 : BitVec 32 := 512#32
  let v166 : BitVec 32 := Scalar.muli arg7 c512_i32_65
  let v167 : BitVec 32 := v166
  let v195 : Index := Scalar.indexCast v167
  let c512_75 : Index := 512#32
  ![v195.toNat, 512]
def k1_off29 (i : grid1.Coords) (k1_t3 : Fin (k1_t3_loop i).trips) : Fin 2 → Nat :=
  let c0_i32_55 : BitVec 32 := 0#32
  let c1_i32_57 : BitVec 32 := 1#32
  let arg7 : BitVec 32 := Scf.iv c0_i32_55 c1_i32_57 k1_t3
  let c512_i32_65 : BitVec 32 := 512#32
  let v166 : BitVec 32 := Scalar.muli arg7 c512_i32_65
  let v167 : BitVec 32 := v166
  let v207 : Index := Scalar.indexCast v167
  let c768_78 : Index := 768#32
  ![v207.toNat, 768]
@[reducible] def k1_t4_loop (i : grid1.Coords) : Scf.Loop 32 :=
  let c0_i32_55 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v139 : BitVec 32 := Scalar.subi v17 c0_i32_55
  let c1_i32_56 : BitVec 32 := 1#32
  let v141 : BitVec 32 := Scalar.divsi v139 c1_i32_56
  let v142 : BitVec 32 := Scalar.muli v141 c1_i32_56
  let v143 : BitVec 32 := Scalar.addi c0_i32_55 v142
  let v140 : BitVec 32 := Scalar.addi c0_i32_55 v139
  let c1_i32_58 : BitVec 32 := 1#32
  ⟨v143, v140, c1_i32_58⟩
def k1_mult5 (i : grid1.Coords) (k1_t4 : Fin (k1_t4_loop i).trips) : BitVec 32 :=
  let c0_i32_55 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v139 : BitVec 32 := Scalar.subi v17 c0_i32_55
  let c1_i32_56 : BitVec 32 := 1#32
  let v141 : BitVec 32 := Scalar.divsi v139 c1_i32_56
  let v142 : BitVec 32 := Scalar.muli v141 c1_i32_56
  let v143 : BitVec 32 := Scalar.addi c0_i32_55 v142
  let c1_i32_58 : BitVec 32 := 1#32
  let arg7 : BitVec 32 := Scf.iv v143 c1_i32_58 k1_t4
  let c512_i32_65 : BitVec 32 := 512#32
  let v166 : BitVec 32 := Scalar.muli arg7 c512_i32_65
  v166
def k1_off30 (i : grid1.Coords) (k1_t4 : Fin (k1_t4_loop i).trips) : Fin 4 → Nat :=
  let c0_66 : Index := 0#32
  let c0_i32_55 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v139 : BitVec 32 := Scalar.subi v17 c0_i32_55
  let c1_i32_56 : BitVec 32 := 1#32
  let v141 : BitVec 32 := Scalar.divsi v139 c1_i32_56
  let v142 : BitVec 32 := Scalar.muli v141 c1_i32_56
  let v143 : BitVec 32 := Scalar.addi c0_i32_55 v142
  let c1_i32_58 : BitVec 32 := 1#32
  let arg7 : BitVec 32 := Scf.iv v143 c1_i32_58 k1_t4
  let v168 : Index := Scalar.indexCast arg7
  let c0_67 : Index := 0#32
  let c0_68 : Index := 0#32
  ![0, v168.toNat, 0, 0]
def k1_off31 (i : grid1.Coords) (k1_t4 : Fin (k1_t4_loop i).trips) : Fin 2 → Nat :=
  let c0_i32_55 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v139 : BitVec 32 := Scalar.subi v17 c0_i32_55
  let c1_i32_56 : BitVec 32 := 1#32
  let v141 : BitVec 32 := Scalar.divsi v139 c1_i32_56
  let v142 : BitVec 32 := Scalar.muli v141 c1_i32_56
  let v143 : BitVec 32 := Scalar.addi c0_i32_55 v142
  let c1_i32_58 : BitVec 32 := 1#32
  let arg7 : BitVec 32 := Scf.iv v143 c1_i32_58 k1_t4
  let c512_i32_65 : BitVec 32 := 512#32
  let v166 : BitVec 32 := Scalar.muli arg7 c512_i32_65
  let v167 : BitVec 32 := v166
  let v171 : Index := Scalar.indexCast v167
  let c0_69 : Index := 0#32
  ![v171.toNat, 0]
def k1_off32 (i : grid1.Coords) (k1_t4 : Fin (k1_t4_loop i).trips) : Fin 2 → Nat :=
  let c0_i32_55 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v139 : BitVec 32 := Scalar.subi v17 c0_i32_55
  let c1_i32_56 : BitVec 32 := 1#32
  let v141 : BitVec 32 := Scalar.divsi v139 c1_i32_56
  let v142 : BitVec 32 := Scalar.muli v141 c1_i32_56
  let v143 : BitVec 32 := Scalar.addi c0_i32_55 v142
  let c1_i32_58 : BitVec 32 := 1#32
  let arg7 : BitVec 32 := Scf.iv v143 c1_i32_58 k1_t4
  let c512_i32_65 : BitVec 32 := 512#32
  let v166 : BitVec 32 := Scalar.muli arg7 c512_i32_65
  let v167 : BitVec 32 := v166
  let v183 : Index := Scalar.indexCast v167
  let c256_72 : Index := 256#32
  ![v183.toNat, 256]
def k1_off33 (i : grid1.Coords) (k1_t4 : Fin (k1_t4_loop i).trips) : Fin 2 → Nat :=
  let c0_i32_55 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v139 : BitVec 32 := Scalar.subi v17 c0_i32_55
  let c1_i32_56 : BitVec 32 := 1#32
  let v141 : BitVec 32 := Scalar.divsi v139 c1_i32_56
  let v142 : BitVec 32 := Scalar.muli v141 c1_i32_56
  let v143 : BitVec 32 := Scalar.addi c0_i32_55 v142
  let c1_i32_58 : BitVec 32 := 1#32
  let arg7 : BitVec 32 := Scf.iv v143 c1_i32_58 k1_t4
  let c512_i32_65 : BitVec 32 := 512#32
  let v166 : BitVec 32 := Scalar.muli arg7 c512_i32_65
  let v167 : BitVec 32 := v166
  let v195 : Index := Scalar.indexCast v167
  let c512_75 : Index := 512#32
  ![v195.toNat, 512]
def k1_off34 (i : grid1.Coords) (k1_t4 : Fin (k1_t4_loop i).trips) : Fin 2 → Nat :=
  let c0_i32_55 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v139 : BitVec 32 := Scalar.subi v17 c0_i32_55
  let c1_i32_56 : BitVec 32 := 1#32
  let v141 : BitVec 32 := Scalar.divsi v139 c1_i32_56
  let v142 : BitVec 32 := Scalar.muli v141 c1_i32_56
  let v143 : BitVec 32 := Scalar.addi c0_i32_55 v142
  let c1_i32_58 : BitVec 32 := 1#32
  let arg7 : BitVec 32 := Scf.iv v143 c1_i32_58 k1_t4
  let c512_i32_65 : BitVec 32 := 512#32
  let v166 : BitVec 32 := Scalar.muli arg7 c512_i32_65
  let v167 : BitVec 32 := v166
  let v207 : Index := Scalar.indexCast v167
  let c768_78 : Index := 768#32
  ![v207.toNat, 768]
def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S16x4096x256 : Shape := ⟨3, ![16, 4096, 256]⟩
abbrev S16x4096x4 : Shape := ⟨3, ![16, 4096, 4]⟩
abbrev S4 : Shape := ⟨1, ![4]⟩
abbrev S16x4096x4x64 : Shape := ⟨4, ![16, 4096, 4, 64]⟩
abbrev S1x1x4 : Shape := ⟨3, ![1, 1, 4]⟩
abbrev S_ : Shape := ⟨0, ![]⟩
abbrev S16x4x4096 : Shape := ⟨3, ![16, 4, 4096]⟩
abbrev S16x4x4096x4096 : Shape := ⟨4, ![16, 4, 4096, 4096]⟩
abbrev S16x4x4096x1 : Shape := ⟨4, ![16, 4, 4096, 1]⟩
abbrev S16x4x1x4096 : Shape := ⟨4, ![16, 4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S16x4x64x4096 : Shape := ⟨4, ![16, 4, 64, 4096]⟩
abbrev S65536x256 : Shape := ⟨2, ![65536, 256]⟩

abbrev nBuf : Space → Nat
  | .hbm => 71
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S16x4096x4, .f32⟩
  | .hbm, ⟨4, _⟩ => ⟨S4, .f32⟩
  | .hbm, ⟨5, _⟩ => ⟨S16x4096x4x64, .f32⟩
  | .hbm, ⟨6, _⟩ => ⟨S16x4096x4x64, .f32⟩
  | .hbm, ⟨7, _⟩ => ⟨S16x4096x4x64, .f32⟩
  | .hbm, ⟨8, _⟩ => ⟨S1x1x4, .f32⟩
  | .hbm, ⟨9, _⟩ => ⟨S16x4096x4, .f32⟩
  | .hbm, ⟨10, _⟩ => ⟨S16x4096x4, .f32⟩
  | .hbm, ⟨11, _⟩ => ⟨S16x4096x4, .f32⟩
  | .hbm, ⟨12, _⟩ => ⟨S_, .f32⟩
  | .hbm, ⟨13, _⟩ => ⟨S16x4096x4, .f32⟩
  | .hbm, ⟨14, _⟩ => ⟨S16x4096x4, .f32⟩
  | .hbm, ⟨15, _⟩ => ⟨S16x4096x4, .f32⟩
  | .hbm, ⟨16, _⟩ => ⟨S16x4096x4, .f32⟩
  | .hbm, ⟨17, _⟩ => ⟨S16x4096x4, .i1⟩
  | .hbm, ⟨18, _⟩ => ⟨S16x4096x4, .f32⟩
  | .hbm, ⟨19, _⟩ => ⟨S16x4096x4, .f32⟩
  | .hbm, ⟨20, _⟩ => ⟨S16x4096x4, .f32⟩
  | .hbm, ⟨21, _⟩ => ⟨S16x4096x4, .f32⟩
  | .hbm, ⟨22, _⟩ => ⟨S16x4096x4, .f32⟩
  | .hbm, ⟨23, _⟩ => ⟨S16x4096x4, .f32⟩
  | .hbm, ⟨24, _⟩ => ⟨S16x4096x4, .f32⟩
  | .hbm, ⟨25, _⟩ => ⟨S16x4096x4, .f32⟩
  | .hbm, ⟨26, _⟩ => ⟨S16x4096x4, .f32⟩
  | .hbm, ⟨27, _⟩ => ⟨S_, .f32⟩
  | .hbm, ⟨28, _⟩ => ⟨S_, .f32⟩
  | .hbm, ⟨29, _⟩ => ⟨S16x4096x4, .f32⟩
  | .hbm, ⟨30, _⟩ => ⟨S16x4x4096, .f32⟩
  | .hbm, ⟨31, _⟩ => ⟨S16x4x4096x4096, .f32⟩
  | .hbm, ⟨32, _⟩ => ⟨S_, .f32⟩
  | .hbm, ⟨33, _⟩ => ⟨S16x4x4096x4096, .f32⟩
  | .hbm, ⟨34, _⟩ => ⟨S16x4x4096x4096, .f32⟩
  | .hbm, ⟨35, _⟩ => ⟨S16x4x4096x1, .f32⟩
  | .hbm, ⟨36, _⟩ => ⟨S16x4x4096x4096, .f32⟩
  | .hbm, ⟨37, _⟩ => ⟨S16x4x4096x4096, .f32⟩
  | .hbm, ⟨38, _⟩ => ⟨S16x4x1x4096, .f32⟩
  | .hbm, ⟨39, _⟩ => ⟨S16x4x4096x4096, .f32⟩
  | .hbm, ⟨40, _⟩ => ⟨S16x4x4096x4096, .f32⟩
  | .hbm, ⟨41, _⟩ => ⟨S4096, .i32⟩
  | .hbm, ⟨42, _⟩ => ⟨S1x4096, .i32⟩
  | .hbm, ⟨43, _⟩ => ⟨S4096x1, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S1x1x4096x4096, .i1⟩
  | .hbm, ⟨48, _⟩ => ⟨S_, .f32⟩
  | .hbm, ⟨49, _⟩ => ⟨S_, .f32⟩
  | .hbm, ⟨50, _⟩ => ⟨S16x4x4096x4096, .i1⟩
  | .hbm, ⟨51, _⟩ => ⟨S16x4x4096x4096, .f32⟩
  | .hbm, ⟨52, _⟩ => ⟨S16x4x4096x4096, .f32⟩
  | .hbm, ⟨53, _⟩ => ⟨S_, .f32⟩
  | .hbm, ⟨54, _⟩ => ⟨S16x4x4096, .f32⟩
  | .hbm, ⟨55, _⟩ => ⟨S_, .f32⟩
  | .hbm, ⟨56, _⟩ => ⟨S16x4x4096, .f32⟩
  | .hbm, ⟨57, _⟩ => ⟨S16x4x4096, .f32⟩
  | .hbm, ⟨58, _⟩ => ⟨S16x4x4096x1, .f32⟩
  | .hbm, ⟨59, _⟩ => ⟨S16x4x4096x4096, .f32⟩
  | .hbm, ⟨60, _⟩ => ⟨S16x4x4096x4096, .f32⟩
  | .hbm, ⟨61, _⟩ => ⟨S16x4x4096x4096, .f32⟩
  | .hbm, ⟨62, _⟩ => ⟨S_, .f32⟩
  | .hbm, ⟨63, _⟩ => ⟨S16x4x4096, .f32⟩
  | .hbm, ⟨64, _⟩ => ⟨S16x4x4096x1, .f32⟩
  | .hbm, ⟨65, _⟩ => ⟨S16x4x4096x4096, .f32⟩
  | .hbm, ⟨66, _⟩ => ⟨S16x4x4096x4096, .f32⟩
  | .hbm, ⟨67, _⟩ => ⟨S16x4x64x4096, .f32⟩
  | .hbm, ⟨68, _⟩ => ⟨S16x4096x4x64, .f32⟩
  | .hbm, ⟨69, _⟩ => ⟨S65536x256, .f32⟩
  | .hbm, ⟨70, _⟩ => ⟨S65536x256, .bf16⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v6 : Ref sig .tc := ⟨.hbm, 26, rfl⟩
abbrev main_call1_call0_cst : Ref sig .tc := ⟨.hbm, 27, rfl⟩
abbrev main_call1_call0_v0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v25 : Ref sig .tc := ⟨.hbm, 52, rfl⟩
abbrev main_cst_1 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]
-- ==== Kernel2.lean ====
abbrev S16x4096x1024 : Shape := ⟨3, ![16, 4096, 1024]⟩
abbrev S1024 : Shape := ⟨1, ![1024]⟩
abbrev S16x1x1024 : Shape := ⟨3, ![16, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S65536x1024 : Shape := ⟨2, ![65536, 1024]⟩
abbrev S1x1024 : Shape := ⟨2, ![1, 1024]⟩
abbrev S1x2816 : Shape := ⟨2, ![1, 2816]⟩
abbrev S512x1024 : Shape := ⟨2, ![512, 1024]⟩
abbrev S1x1x1024 : Shape := ⟨3, ![1, 1, 1024]⟩
abbrev S520x256 : Shape := ⟨2, ![520, 256]⟩
abbrev S8x2816 : Shape := ⟨2, ![8, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S1x256 : Shape := ⟨2, ![1, 256]⟩
abbrev S256x1024 : Shape := ⟨2, ![256, 1024]⟩

abbrev nBuf : Space → Nat
  | .hbm => 17
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S16x1x1024, .f32⟩
  | .hbm, ⟨10, _⟩ => ⟨S65536x1024, .f32⟩
  | .hbm, ⟨11, _⟩ => ⟨S1x1024, .f32⟩
  | .hbm, ⟨12, _⟩ => ⟨S1024x5632, .bf16⟩
  | .hbm, ⟨13, _⟩ => ⟨S1x2816, .f32⟩
  | .hbm, ⟨14, _⟩ => ⟨S2816x1024, .bf16⟩
  | .hbm, ⟨15, _⟩ => ⟨S1x1024, .f32⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S520x256, .f32⟩
  | .local _ .vmem, ⟨17, _⟩ => ⟨S8x2816, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16x4096x1024 : Shape := ⟨3, ![16, 4096, 1024]⟩
abbrev S1024 : Shape := ⟨1, ![1024]⟩
abbrev S16x1x1024 : Shape := ⟨3, ![16, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩
abbrev S16x4098x2816 : Shape := ⟨3, ![16, 4098, 2816]⟩
abbrev S1x2816 : Shape := ⟨2, ![1, 2816]⟩
abbrev S1x1x2816 : Shape := ⟨3, ![1, 1, 2816]⟩
abbrev S65536x1024 : Shape := ⟨2, ![65536, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S16x1x1024, .f32⟩
  | .hbm, ⟨10, _⟩ => ⟨S16x4096x1024, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1, .f32⟩
  | .hbm, ⟨21, _⟩ => ⟨S16x4096x1024, .f32⟩
  | .hbm, ⟨22, _⟩ => ⟨S16x4096x1024, .f32⟩
  | .hbm, ⟨23, _⟩ => ⟨S1x1x1024, .f32⟩
  | .hbm, ⟨24, _⟩ => ⟨S16x4096x1024, .f32⟩
  | .hbm, ⟨25, _⟩ => ⟨S16x4096x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x5632, .f32⟩
  | .hbm, ⟨34, _⟩ => ⟨S16x4096x2816, .f32⟩
  | .hbm, ⟨35, _⟩ => ⟨S16x4096x2816, .f32⟩
  | .hbm, ⟨36, _⟩ => ⟨S_, .i32⟩
  | .hbm, ⟨37, _⟩ => ⟨S_, .f32⟩
  | .hbm, ⟨38, _⟩ => ⟨S16x4098x2816, .f32⟩
  | .hbm, ⟨39, _⟩ => ⟨S1x2816, .f32⟩
  | .hbm, ⟨40, _⟩ => ⟨S2816, .f32⟩
  | .hbm, ⟨41, _⟩ => ⟨S16x4096x2816, .f32⟩
  | .hbm, ⟨42, _⟩ => ⟨S1x1x2816, .f32⟩
  | .hbm, ⟨43, _⟩ => ⟨S16x4096x2816, .f32⟩
  | .hbm, ⟨44, _⟩ => ⟨S16x4096x2816, .f32⟩
  | .hbm, ⟨45, _⟩ => ⟨S1x2816, .f32⟩
  | .hbm, ⟨46, _⟩ => ⟨S2816, .f32⟩
  | .hbm, ⟨47, _⟩ => ⟨S16x4096x2816, .f32⟩
  | .hbm, ⟨48, _⟩ => ⟨S1x1x2816, .f32⟩
  | .hbm, ⟨49, _⟩ => ⟨S16x4096x2816, .f32⟩
  | .hbm, ⟨50, _⟩ => ⟨S16x4096x2816, .f32⟩
  | .hbm, ⟨51, _⟩ => ⟨S16x4096x2816, .f32⟩
  | .hbm, ⟨52, _⟩ => ⟨S1x2816, .f32⟩
  | .hbm, ⟨53, _⟩ => ⟨S2816, .f32⟩
  | .hbm, ⟨54, _⟩ => ⟨S16x4096x2816, .f32⟩
  | .hbm, ⟨55, _⟩ => ⟨S1x1x2816, .f32⟩
  | .hbm, ⟨56, _⟩ => ⟨S16x4096x2816, .f32⟩
  | .hbm, ⟨57, _⟩ => ⟨S16x4096x2816, .f32⟩
  | .hbm, ⟨58, _⟩ => ⟨S16x4096x2816, .f32⟩
  | .hbm, ⟨59, _⟩ => ⟨S1x1x2816, .f32⟩
  | .hbm, ⟨60, _⟩ => ⟨S16x4096x2816, .f32⟩
  | .hbm, ⟨61, _⟩ => ⟨S16x4096x2816, .f32⟩
  | .hbm, ⟨62, _⟩ => ⟨S16x4096x2816, .f32⟩
  | .hbm, ⟨63, _⟩ => ⟨S16x4096x2816, .f32⟩
  | .hbm, ⟨64, _⟩ => ⟨S_, .f32⟩
  | .hbm, ⟨65, _⟩ => ⟨S16x4096x2816, .f32⟩
  | .hbm, ⟨66, _⟩ => ⟨S16x4096x2816, .f32⟩
  | .hbm, ⟨67, _⟩ => ⟨S16x4096x2816, .f32⟩
  | .hbm, ⟨68, _⟩ => ⟨S_, .f32⟩
  | .hbm, ⟨69, _⟩ => ⟨S16x4096x2816, .f32⟩
  | .hbm, ⟨70, _⟩ => ⟨S16x4096x2816, .f32⟩
  | .hbm, ⟨71, _⟩ => ⟨S16x4096x2816, .f32⟩
  | .hbm, ⟨72, _⟩ => ⟨S_, .f32⟩
  | .hbm, ⟨73, _⟩ => ⟨S16x4096x2816, .f32⟩
  | .hbm, ⟨74, _⟩ => ⟨S16x4096x2816, .f32⟩
  | .hbm, ⟨75, _⟩ => ⟨S_, .f32⟩
  | .hbm, ⟨76, _⟩ => ⟨S16x4096x2816, .f32⟩
  | .hbm, ⟨77, _⟩ => ⟨S16x4096x2816, .f32⟩
  | .hbm, ⟨78, _⟩ => ⟨S16x4096x2816, .f32⟩
  | .hbm, ⟨79, _⟩ => ⟨S16x4096x2816, .f32⟩
  | .hbm, ⟨80, _⟩ => ⟨S16x4096x1024, .f32⟩
  | .hbm, ⟨81, _⟩ => ⟨S16x4096x1024, .f32⟩
  | .hbm, ⟨82, _⟩ => ⟨S_, .f32⟩
  | .hbm, ⟨83, _⟩ => ⟨S16x4096, .f32⟩
  | .hbm, ⟨84, _⟩ => ⟨S16x4096x1, .f32⟩
  | .hbm, ⟨85, _⟩ => ⟨S_, .f32⟩
  | .hbm, ⟨86, _⟩ => ⟨S16x4096x1, .f32⟩
  | .hbm, ⟨87, _⟩ => ⟨S16x4096x1, .f32⟩
  | .hbm, ⟨88, _⟩ => ⟨S_, .f32⟩
  | .hbm, ⟨89, _⟩ => ⟨S16x4096x1, .f32⟩
  | .hbm, ⟨90, _⟩ => ⟨S16x4096x1, .f32⟩
  | .hbm, ⟨91, _⟩ => ⟨S16x4096x1, .f32⟩
  | .hbm, ⟨92, _⟩ => ⟨S16x4096x1024, .f32⟩
  | .hbm, ⟨93, _⟩ => ⟨S16x4096x1024, .f32⟩
  | .hbm, ⟨94, _⟩ => ⟨S1x1x1024, .f32⟩
  | .hbm, ⟨95, _⟩ => ⟨S16x4096x1024, .f32⟩
  | .hbm, ⟨96, _⟩ => ⟨S16x4096x1024, .f32⟩
  | .hbm, ⟨97, _⟩ => ⟨S16x4096x1024, .f32⟩
  | .hbm, ⟨98, _⟩ => ⟨S16x4096x1024, .f32⟩
  | .hbm, ⟨99, _⟩ => ⟨S16x4096x1024, .f32⟩
  | .hbm, ⟨100, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== Proof.Cells.lean ====
/-
  Loads of a whole buffer's block at a rectangle, by coordinates: what a body's load reads is the block's entry at the
  rectangle's offset plus the place in the rectangle. Shared by the modules of every program.
-/
module

public import Idealize.ShloMosaic.Lib.Pipeline.Frame
public import Idealize.ShloMosaic.Lib.Pipeline.FrameBody
public import Idealize.ShloMosaic.Lib.Writes

@[expose] public section

namespace Cert.Fox

open Idealize.ShloMosaic

/-- The place at row `r`, column `c` of an `n` by `m` array. -/
def ix (n m : ℕ) [NeZero n] [NeZero m] (r c : ℕ) : (⟨2, ![n, m]⟩ : Shape).Idx := fun a =>
  match a with
  | ⟨0, _⟩ => Fin.ofNat n r
  | ⟨1, _⟩ => Fin.ofNat m c

/-- The place in chunk `k` of an array of 8 chunks of 256 by 512. -/
def ixv (k : ℕ) (r c : ℕ) : (⟨4, ![1, 8, 256, 512]⟩ : Shape).Idx := fun a =>
  match a with
  | ⟨0, _⟩ => Fin.ofNat 1 0
  | ⟨1, _⟩ => Fin.ofNat 8 k
  | ⟨2, _⟩ => Fin.ofNat 256 r
  | ⟨3, _⟩ => Fin.ofNat 512 c

section
variable {sig : RefSig} {κ : Kind} {sp : Space} {e : EltTy} {Val : EltTy → Type}

/-- A load of a `p` by `q` rectangle at row `r`, column `c` of a whole memref holding `x`. -/
theorem readAt_ix {n m p q : ℕ} [NeZero n] [NeZero m] (v : View sig κ sp (⟨2, ![n, m]⟩ : Shape) e) (f : v.ty.Contents Val)
    {off : Fin 2 → ℕ} {r c : ℕ} (hoff : off = ![r, c]) (inb : ∀ a, off a + ![p, q] a ≤ (⟨2, ![n, m]⟩ : Shape).size a) :
    v.readAt Val (Rect.unit (s := ⟨2, ![n, m]⟩) off ![p, q] inb).toLoadRect f
      = fun y => v.read Val f (ix n m (r + (y 0).val) (c + (y 1).val)) := by
  subst hoff
  funext y
  have h0 : r + p ≤ n := inb 0
  have h1 : c + q ≤ m := inb 1
  have y0 : (y 0).val < p := (y 0).isLt
  have y1 : (y 1).val < q := (y 1).isLt
  refine congrArg (v.read Val f) (funext fun a => Fin.ext ?_)
  match a with
  | ⟨0, _⟩ =>
    show r + 1 * (y 0).val = (r + (y 0).val) % n
    rw [Nat.mod_eq_of_lt (by omega), Nat.one_mul]
  | ⟨1, _⟩ =>
    show c + 1 * (y 1).val = (c + (y 1).val) % m
    rw [Nat.mod_eq_of_lt (by omega), Nat.one_mul]

/-- A load of chunk `k`. -/
theorem readAt_ixv (v : View sig κ sp (⟨4, ![1, 8, 256, 512]⟩ : Shape) e) (f : v.ty.Contents Val)
    {off : Fin 4 → ℕ} {k : ℕ} (hoff : off = ![0, k, 0, 0]) (inb : ∀ a, off a + ![1, 1, 256, 512] a ≤ (⟨4, ![1, 8, 256, 512]⟩ : Shape).size a) :
    v.readAt Val (Rect.unit (s := ⟨4, ![1, 8, 256, 512]⟩) off ![1, 1, 256, 512] inb).toLoadRect f
      = fun y => v.read Val f (ixv k (y 2).val (y 3).val) := by
  subst hoff
  funext y
  have h1 : k + 1 ≤ 8 := inb 1
  have y0 : (y 0).val < 1 := (y 0).isLt
  have y1 : (y 1).val < 1 := (y 1).isLt
  have y2 : (y 2).val < 256 := (y 2).isLt
  have y3 : (y 3).val < 512 := (y 3).isLt
  refine congrArg (v.read Val f) (funext fun a => Fin.ext ?_)
  match a with
  | ⟨0, _⟩ => show 0 + 1 * (y 0).val = 0 % 1; omega
  | ⟨1, _⟩ => show k + 1 * (y 1).val = k % 8; omega
  | ⟨2, _⟩ => show 0 + 1 * (y 2).val = (y 2).val % 256; omega
  | ⟨3, _⟩ => show 0 + 1 * (y 3).val = (y 3).val % 512; omega

/-- A `p` by `q` rectangle at row `r`, column `c` holds the places of its rows and columns. -/
theorem mem_rect_ix {n m p q : ℕ} {off : Fin 2 → ℕ} {r c : ℕ} (hoff : off = ![r, c])
    (inb : ∀ a, off a + ![p, q] a ≤ (⟨2, ![n, m]⟩ : Shape).size a) (y : (⟨2, ![n, m]⟩ : Shape).Idx)
    (h0 : r ≤ (y 0).val) (h0' : (y 0).val < r + p) (h1 : c ≤ (y 1).val) (h1' : (y 1).val < c + q) :
    y ∈ (Rect.unit (s := ⟨2, ![n, m]⟩) off ![p, q] inb).set := by
  subst hoff
  refine Rect.mem_set_unit.mpr fun a => ?_
  match a with
  | ⟨0, _⟩ => exact ⟨h0, h0'⟩
  | ⟨1, _⟩ => exact ⟨h1, h1'⟩

/-- Where such a rectangle places an index. -/
theorem emb_ix {n m p q : ℕ} {off : Fin 2 → ℕ} {r c : ℕ} (hoff : off = ![r, c])
    (inb : ∀ a, off a + ![p, q] a ≤ (⟨2, ![n, m]⟩ : Shape).size a) (x : (Rect.unit (s := ⟨2, ![n, m]⟩) off ![p, q] inb).shape.Idx) :
    (((Rect.unit (s := ⟨2, ![n, m]⟩) off ![p, q] inb).emb x) 0).val = r + (x 0).val
      ∧ (((Rect.unit (s := ⟨2, ![n, m]⟩) off ![p, q] inb).emb x) 1).val = c + (x 1).val := by
  subst hoff
  constructor
  · show r + 1 * (x 0).val = r + (x 0).val; rw [Nat.one_mul]
  · show c + 1 * (x 1).val = c + (x 1).val; rw [Nat.one_mul]
end

end Cert.Fox
-- ==== Proof.IdealScores.lean ====
/-
  The scores loop of the forgetting attention kernel: one trip writes the four score blocks of one chunk of keys
  into the scratch and folds their row maxima into the four carried accumulators. The loop's invariant: the scratch
  at the pieces of the trips run so far, the accumulators at the recursion of the trips' yields.
-/
module

public import proofs.«01_k».proof.Proof.Gen.KernelIdeal.Loops
public import proofs.«01_k».proof.Proof.Gen.KernelIdeal.Launch
public import proofs.«01_k».proof.Proof.Gen.KernelIdeal.Points
public import Idealize.ShloMosaic.Lib.LoopRemainder
public import Idealize.ShloMosaic.Lib.Tactic

@[expose] public section

set_option maxRecDepth 16384

noncomputable section

namespace Cert.Fox.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

/-! ## Where a trip reads and writes -/

/-- The number of full chunks of keys before query tile `i`. -/
theorem trips1_eq (i : grid1.Coords) : (k1_t1_loop i).trips = (i 1).val / 2 := by
  have h : ∀ j : Fin 16, Scf.trips 0#32 (k1_t1_loop (fun a => match a with | 0 => (0 : Fin 16) | 1 => j)).ub 1#32 = j.val / 2 := by
    decide +kernel
  exact h (i 1)

/-- The induction variable of a short counted loop from 0 by 1, times 512, is 512 times the trip. -/
theorem chunk_word (k : ℕ) (hk : k < 8) : (Scalar.indexCast (Scalar.muli (Scf.iv 0#32 1#32 k) 512#32)).toNat = 512 * k := by
  have h : ∀ j : Fin 8, (Scalar.indexCast (Scalar.muli (Scf.iv 0#32 1#32 j.val) 512#32)).toNat = 512 * j.val := by decide +kernel
  exact h ⟨k, hk⟩

theorem trip_lt (i : grid1.Coords) (k : Fin (k1_t1_loop i).trips) : k.val < 8 :=
  lt_of_lt_of_le k.isLt ((k1_t1_abs i).2.1.trans (by decide))

theorem k1_off1_eq (i : grid1.Coords) (k : Fin (k1_t1_loop i).trips) : k1_off1 i k = ![512 * k.val, 0] := by
  unfold k1_off1; exact congrArg (![·, 0]) (chunk_word k.val (trip_lt i k))
instance (i : grid1.Coords) (k : Fin (k1_t1_loop i).trips) : ClosedOff (k1_off1 i k) := ⟨_, k1_off1_eq i k⟩
theorem k1_off2_eq (i : grid1.Coords) (k : Fin (k1_t1_loop i).trips) : k1_off2 i k = ![512 * k.val, 0] := by
  unfold k1_off2; exact congrArg (![·, 0]) (chunk_word k.val (trip_lt i k))
instance (i : grid1.Coords) (k : Fin (k1_t1_loop i).trips) : ClosedOff (k1_off2 i k) := ⟨_, k1_off2_eq i k⟩
theorem k1_off3_eq (i : grid1.Coords) (k : Fin (k1_t1_loop i).trips) : k1_off3 i k = ![512 * k.val, 128] := by
  unfold k1_off3; exact congrArg (![·, 128]) (chunk_word k.val (trip_lt i k))
instance (i : grid1.Coords) (k : Fin (k1_t1_loop i).trips) : ClosedOff (k1_off3 i k) := ⟨_, k1_off3_eq i k⟩
theorem k1_off4_eq (i : grid1.Coords) (k : Fin (k1_t1_loop i).trips) : k1_off4 i k = ![512 * k.val, 256] := by
  unfold k1_off4; exact congrArg (![·, 256]) (chunk_word k.val (trip_lt i k))
instance (i : grid1.Coords) (k : Fin (k1_t1_loop i).trips) : ClosedOff (k1_off4 i k) := ⟨_, k1_off4_eq i k⟩
theorem k1_off5_eq (i : grid1.Coords) (k : Fin (k1_t1_loop i).trips) : k1_off5 i k = ![512 * k.val, 256] := by
  unfold k1_off5; exact congrArg (![·, 256]) (chunk_word k.val (trip_lt i k))
instance (i : grid1.Coords) (k : Fin (k1_t1_loop i).trips) : ClosedOff (k1_off5 i k) := ⟨_, k1_off5_eq i k⟩
theorem k1_off6_eq (i : grid1.Coords) (k : Fin (k1_t1_loop i).trips) : k1_off6 i k = ![512 * k.val, 512] := by
  unfold k1_off6; exact congrArg (![·, 512]) (chunk_word k.val (trip_lt i k))
instance (i : grid1.Coords) (k : Fin (k1_t1_loop i).trips) : ClosedOff (k1_off6 i k) := ⟨_, k1_off6_eq i k⟩
theorem k1_off7_eq (i : grid1.Coords) (k : Fin (k1_t1_loop i).trips) : k1_off7 i k = ![512 * k.val, 384] := by
  unfold k1_off7; exact congrArg (![·, 384]) (chunk_word k.val (trip_lt i k))
instance (i : grid1.Coords) (k : Fin (k1_t1_loop i).trips) : ClosedOff (k1_off7 i k) := ⟨_, k1_off7_eq i k⟩
theorem k1_off8_eq (i : grid1.Coords) (k : Fin (k1_t1_loop i).trips) : k1_off8 i k = ![512 * k.val, 768] := by
  unfold k1_off8; exact congrArg (![·, 768]) (chunk_word k.val (trip_lt i k))
instance (i : grid1.Coords) (k : Fin (k1_t1_loop i).trips) : ClosedOff (k1_off8 i k) := ⟨_, k1_off8_eq i k⟩

/-! ## One trip -/

/-- What the four accumulators are. -/
abbrev Acc4 (F : FTy → Type) : Type := FVec F S8x256 .f32 × FVec F S8x256 .f32 × FVec F S8x256 .f32 × FVec F S8x256 .f32

/-- One trip's resources: the queries and the keys it reads, the scratch it writes. -/
abbrev Trip1 (c : Dev nD) (arg2 : Memref sig .tc .vmem S256x512 .bf16) (arg3 : Memref sig .tc .vmem S4096x512 .bf16) (arg6 : Memref sig .tc .vmem S4096x1024 .f32)
    (X2 : BufTy.Contents (Elt F) arg2.view.ty) (X3 : BufTy.Contents (Elt F) arg3.view.ty) (f6 : BufTy.Contents (Elt F) arg6.view.ty) : sProp 𝕄G :=
  iprop((arg2.view.loc (c : Thread nD τ) ↦[arg2.view.set]{fullShare} X2) ∗ (arg3.view.loc (c : Thread nD τ) ↦[arg3.view.set]{fullShare} X3)
    ∗ (arg6.view.loc (c : Thread nD τ) ↦[arg6.view.set]{fullShare} f6))

/-- One trip at a symbolic `k` and carried accumulators: what it yields and the pieces it writes, found by the run. -/
@[irreducible] def trip1 (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S1x8x256x512 .bf16) (harg4 : arg4.IsWhole) (arg5 : Memref sig .tc .vmem S256x256 .bf16) (harg5 : arg5.IsWhole) (arg6 : Memref sig .tc .vmem S4096x1024 .f32) (harg6 : arg6.IsWhole) (X2 : BufTy.Contents (Elt F) arg2.view.ty) (X3 : BufTy.Contents (Elt F) arg3.view.ty) (k : Fin (k1_t1_loop i).trips) :
    Σ' (R : Acc4 F → Acc4 F), { L : List (View.Piece (Elt F) S4096x1024 .f32) // ∀ (E : Set ℕ) (f6 : BufTy.Contents (Elt F) arg6.view.ty) (acc : Acc4 F),
      Trip1 (F := F) c arg2 arg3 arg6 X2 X3 f6
      ⊢ wp frame (wpE (defs₀ (F := F)) Variants.none (c : Thread nD τ) none) E (k1_t1_body (F := F) i arg2 harg2 arg3 harg3 arg4 harg4 arg5 harg5 arg6 harg6 k acc)
          (fun yld => iprop(⌜yld = R acc⌝ ∗ Trip1 (F := F) c arg2 arg3 arg6 X2 X3 (arg6.view.writes (Elt F) f6 L))) } := by
  refine ⟨?_, ?_, fun E f6 acc => ?run⟩
  case run =>
    unfold k1_t1_body
    iintro ⟨H2, H3, H6⟩
    sl_exec
    sl_step
    sl_close

/-- The accumulators before trip `k`, and the pieces written before it. -/
def st1 (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S1x8x256x512 .bf16) (harg4 : arg4.IsWhole) (arg5 : Memref sig .tc .vmem S256x256 .bf16) (harg5 : arg5.IsWhole) (arg6 : Memref sig .tc .vmem S4096x1024 .f32) (harg6 : arg6.IsWhole) (X2 : BufTy.Contents (Elt F) arg2.view.ty) (X3 : BufTy.Contents (Elt F) arg3.view.ty) (init : Acc4 F) : ℕ → Acc4 F × List (View.Piece (Elt F) S4096x1024 .f32)
  | 0 => (init, [])
  | k + 1 =>
    if h : k < (k1_t1_loop i).trips then
      ((trip1 (F := F) c i arg2 harg2 arg3 harg3 arg4 harg4 arg5 harg5 arg6 harg6 X2 X3 ⟨k, h⟩).1 (st1 c i arg2 harg2 arg3 harg3 arg4 harg4 arg5 harg5 arg6 harg6 X2 X3 init k).1,
        (trip1 (F := F) c i arg2 harg2 arg3 harg3 arg4 harg4 arg5 harg5 arg6 harg6 X2 X3 ⟨k, h⟩).2.1 ++ (st1 c i arg2 harg2 arg3 harg3 arg4 harg4 arg5 harg5 arg6 harg6 X2 X3 init k).2)
    else st1 c i arg2 harg2 arg3 harg3 arg4 harg4 arg5 harg5 arg6 harg6 X2 X3 init k

theorem st1_succ (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S1x8x256x512 .bf16) (harg4 : arg4.IsWhole) (arg5 : Memref sig .tc .vmem S256x256 .bf16) (harg5 : arg5.IsWhole) (arg6 : Memref sig .tc .vmem S4096x1024 .f32) (harg6 : arg6.IsWhole) (X2 : BufTy.Contents (Elt F) arg2.view.ty) (X3 : BufTy.Contents (Elt F) arg3.view.ty) (init : Acc4 F) (k : Fin (k1_t1_loop i).trips) :
    st1 (F := F) c i arg2 harg2 arg3 harg3 arg4 harg4 arg5 harg5 arg6 harg6 X2 X3 init (k.val + 1)
      = ((trip1 (F := F) c i arg2 harg2 arg3 harg3 arg4 harg4 arg5 harg5 arg6 harg6 X2 X3 k).1 (st1 c i arg2 harg2 arg3 harg3 arg4 harg4 arg5 harg5 arg6 harg6 X2 X3 init k.val).1,
        (trip1 (F := F) c i arg2 harg2 arg3 harg3 arg4 harg4 arg5 harg5 arg6 harg6 X2 X3 k).2.1 ++ (st1 c i arg2 harg2 arg3 harg3 arg4 harg4 arg5 harg5 arg6 harg6 X2 X3 init k.val).2) := by
  rw [st1.eq_2]; exact dif_pos k.isLt

/-- The invariant before trip `k`: the inputs as they are, the scratch at the pieces so far, the accumulators at the recursion. -/
abbrev inv1 (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S1x8x256x512 .bf16) (harg4 : arg4.IsWhole) (arg5 : Memref sig .tc .vmem S256x256 .bf16) (harg5 : arg5.IsWhole) (arg6 : Memref sig .tc .vmem S4096x1024 .f32) (harg6 : arg6.IsWhole) (X2 : BufTy.Contents (Elt F) arg2.view.ty) (X3 : BufTy.Contents (Elt F) arg3.view.ty) (G6 : BufTy.Contents (Elt F) arg6.view.ty) (init : Acc4 F) (k : ℕ) (acc : Acc4 F) : sProp 𝕄G :=
  iprop((arg2.view.loc (c : Thread nD τ) ↦[arg2.view.set]{fullShare} X2) ∗ (arg3.view.loc (c : Thread nD τ) ↦[arg3.view.set]{fullShare} X3)
    ∗ (∃ f, (arg6.view.loc (c : Thread nD τ) ↦[arg6.view.set]{fullShare} f) ∗ ⌜f = arg6.view.writes (Elt F) G6 (st1 (F := F) c i arg2 harg2 arg3 harg3 arg4 harg4 arg5 harg5 arg6 harg6 X2 X3 init k).2⌝)
    ∗ ⌜acc = (st1 (F := F) c i arg2 harg2 arg3 harg3 arg4 harg4 arg5 harg5 arg6 harg6 X2 X3 init k).1⌝)

set_option warn.classDefReducibility false in
/-- The loop by its invariant. -/
@[sl_loop] def loopInv1 (c : Dev nD) (E : Set ℕ) (i : grid1.Coords) (arg2 : Memref sig .tc .vmem S256x512 .bf16) (harg2 : arg2.IsWhole) (arg3 : Memref sig .tc .vmem S4096x512 .bf16) (harg3 : arg3.IsWhole) (arg4 : Memref sig .tc .vmem S1x8x256x512 .bf16) (harg4 : arg4.IsWhole) (arg5 : Memref sig .tc .vmem S256x256 .bf16) (harg5 : arg5.IsWhole) (arg6 : Memref sig .tc .vmem S4096x1024 .f32) (harg6 : arg6.IsWhole) (X2 : BufTy.Contents (Elt F) arg2.view.ty) (X3 : BufTy.Contents (Elt F) arg3.view.ty) (G6 : BufTy.Contents (Elt F) arg6.view.ty) (init : Acc4 F) :
    LoopInvTy_k1_t1 (F := F) Unit ℕ (UR sig nD τ) ℕ Variants.none c none E i arg2 harg2 arg3 harg3 arg4 harg4 arg5 harg5 arg6 harg6 init where
  inv := inv1 (F := F) c i arg2 harg2 arg3 harg3 arg4 harg4 arg5 harg5 arg6 harg6 X2 X3 G6 init
  step k acc := by
    iintro ⟨H2, H3, ⟨%f, H6, %hf⟩, %h_acc⟩
    subst h_acc
    iapply (wp_wand_r Idealize.ShloMosaic.frame (wpE (defs₀ (F := F)) Variants.none (c : Thread nD τ) none) E)
    isplitl [H2 H3 H6]
    · iapply ((trip1 (F := F) c i arg2 harg2 arg3 harg3 arg4 harg4 arg5 harg5 arg6 harg6 X2 X3 k).2.2 E f (st1 (F := F) c i arg2 harg2 arg3 harg3 arg4 harg4 arg5 harg5 arg6 harg6 X2 X3 init k).1)
      isplitl [H2]; · iexact H2
      isplitl [H3]; · iexact H3
      iexact H6
    · iintro %yld ⟨%h_res, H2, H3, H6⟩
      isplitl [H2]; · iexact H2
      isplitl [H3]; · iexact H3
      isplitl [H6]
      · iexists _; isplitl [H6]; · iexact H6
        ipureintro; rw [st1_succ, hf, ← View.writes_append]
      ipureintro; rw [h_res, st1_succ]

end Cert.Fox.KernelIdeal

end
-- ==== Proof.IdealBody.lean ====
/-
  The forgetting attention kernel's body run once at a symbolic grid point: from the three input blocks and the
  scratch at any contents to the output block at the pieces the run finds.
-/
module

public import proofs.«01_k».proof.Proof.IdealScores
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

set_option maxRecDepth 16384

noncomputable section

namespace Cert.Fox.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

/-! ## The last chunk's offsets -/

theorem k1_off17_eq (i : grid1.Coords) : k1_off17 i = ![512 * ((i 1).val / 2), 0] := by
  have h : ∀ j : Fin 16, k1_off17 (fun a => match a with | 0 => (0 : Fin 16) | 1 => j) = ![512 * (j.val / 2), 0] := by decide +kernel
  exact h (i 1)
instance (i : grid1.Coords) : ClosedOff (k1_off17 i) := ⟨_, k1_off17_eq i⟩
theorem k1_off18_eq (i : grid1.Coords) : k1_off18 i = ![512 * ((i 1).val / 2), 0] := by
  have h : ∀ j : Fin 16, k1_off18 (fun a => match a with | 0 => (0 : Fin 16) | 1 => j) = ![512 * (j.val / 2), 0] := by decide +kernel
  exact h (i 1)
instance (i : grid1.Coords) : ClosedOff (k1_off18 i) := ⟨_, k1_off18_eq i⟩
theorem k1_off19_eq (i : grid1.Coords) : k1_off19 i = ![512 * ((i 1).val / 2), 128] := by
  have h : ∀ j : Fin 16, k1_off19 (fun a => match a with | 0 => (0 : Fin 16) | 1 => j) = ![512 * (j.val / 2), 128] := by decide +kernel
  exact h (i 1)
instance (i : grid1.Coords) : ClosedOff (k1_off19 i) := ⟨_, k1_off19_eq i⟩
theorem k1_off20_eq (i : grid1.Coords) : k1_off20 i = ![512 * ((i 1).val / 2), 256] := by
  have h : ∀ j : Fin 16, k1_off20 (fun a => match a with | 0 => (0 : Fin 16) | 1 => j) = ![512 * (j.val / 2), 256] := by decide +kernel
  exact h (i 1)
instance (i : grid1.Coords) : ClosedOff (k1_off20 i) := ⟨_, k1_off20_eq i⟩
theorem k1_off21_eq (i : grid1.Coords) : k1_off21 i = ![512 * ((i 1).val / 2), 256] := by
  have h : ∀ j : Fin 16, k1_off21 (fun a => match a with | 0 => (0 : Fin 16) | 1 => j) = ![512 * (j.val / 2), 256] := by decide +kernel
  exact h (i 1)
instance (i : grid1.Coords) : ClosedOff (k1_off21 i) := ⟨_, k1_off21_eq i⟩
theorem k1_off22_eq (i : grid1.Coords) : k1_off22 i = ![512 * ((i 1).val / 2), 512] := by
  have h : ∀ j : Fin 16, k1_off22 (fun a => match a with | 0 => (0 : Fin 16) | 1 => j) = ![512 * (j.val / 2), 512] := by decide +kernel
  exact h (i 1)
instance (i : grid1.Coords) : ClosedOff (k1_off22 i) := ⟨_, k1_off22_eq i⟩
theorem k1_off23_eq (i : grid1.Coords) : k1_off23 i = ![512 * ((i 1).val / 2), 384] := by
  have h : ∀ j : Fin 16, k1_off23 (fun a => match a with | 0 => (0 : Fin 16) | 1 => j) = ![512 * (j.val / 2), 384] := by decide +kernel
  exact h (i 1)
instance (i : grid1.Coords) : ClosedOff (k1_off23 i) := ⟨_, k1_off23_eq i⟩
theorem k1_off24_eq (i : grid1.Coords) : k1_off24 i = ![512 * ((i 1).val / 2), 768] := by
  have h : ∀ j : Fin 16, k1_off24 (fun a => match a with | 0 => (0 : Fin 16) | 1 => j) = ![512 * (j.val / 2), 768] := by decide +kernel
  exact h (i 1)
instance (i : grid1.Coords) : ClosedOff (k1_off24 i) := ⟨_, k1_off24_eq i⟩

/-- The body's run: the pieces it leaves in the output block and in the scratch, with the proof that it leaves them. -/
@[irreducible] def foxRun (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S1x8x256x512 .bf16) (harg4 : arg4.IsWhole) (arg5 : Memref sig .tc .vmem S256x256 .bf16) (harg5 : arg5.IsWhole) (arg6 : Memref sig .tc .vmem S4096x1024 .f32) (harg6 : arg6.IsWhole)
    (x0 : Vec F S256x512 .bf16) (x1 : Vec F S4096x512 .bf16) (x2 : Vec F S1x8x256x512 .bf16) (fs : BufTy.Contents (Elt F) arg6.view.ty) :
    Σ' (L3 : List (View.Piece (Elt F) S256x256 .bf16)), { LT0 : List (View.Piece (Elt F) S4096x1024 .f32) //
      ∀ (E : Set ℕ) (K : PUnit → sProp 𝕄G),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (arg6.view.loc (c : Thread nD τ) ↦[arg6.view.set]{fullShare} fs)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0)) -∗ K ⟨⟩))
          ⊢ wp frame (wpE (defs₀ (F := F)) Variants.none c none) E (cc1_fox_attention i arg2 harg2 arg3 harg3 arg4 harg4 arg5 harg5 arg6 harg6) K } := by
  refine ⟨?_, ?_, fun E K => ?run⟩
  case run =>
    simp only [cc1_fox_attention_eq_skeleton]; unfold cc1_fox_attention_skel
    simp only [k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%d3, %f3, -, H3⟩, HS0, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Fox.KernelIdeal

end
-- ==== Proof.IdealClosed.lean ====
/-
  What the forgetting attention kernel's body leaves in its output block, in closed form over the three input blocks:
  the scores of each chunk of keys, the running row maxima, the sums of the weights and the weighted values, chunk by
  chunk. The scratch's prior contents do not matter: every block of scores that is read was written.
-/
module

public import proofs.«01_k».proof.Proof.IdealBody
public import proofs.«01_k».proof.Proof.Cells

@[expose] public section

set_option maxRecDepth 16384

noncomputable section

namespace Cert.Fox.KernelIdeal

open Cert.KernelIdeal Cert.KernelIdeal.Gen

open Idealize.ShloMosaic Idealize.ShloMosaic.TcCoe Idealize.ShloMosaic.Tactic

variable {F : FTy → Type} [FloatOps F] [Named F]

/-! ## The closed form -/

/-- The keys of chunk `k`, the channels of head `h`. -/
def kb (x1 : Vec F S4096x512 .bf16) (k h : ℕ) : Vec F S512x128 .bf16 := fun y => x1 (ix 4096 512 (512 * k + (y 0).val) (128 * h + (y 1).val))
/-- The queries, the channels of head `h`. -/
def qb (x0 : Vec F S256x512 .bf16) (h : ℕ) : Vec F S256x128 .bf16 := fun y => x0 (ix 256 512 (0 + (y 0).val) (128 * h + (y 1).val))
/-- The values of chunk `k`. -/
def vb (x2 : Vec F S1x8x256x512 .bf16) (k : ℕ) : Vec F S1x1x256x512 .bf16 := fun y => x2 (ixv k (y 2).val (y 3).val)
/-- The masked scores of the last chunk of query tile `t`. -/
def cblk (t : ℕ) (K : Vec F S512x128 .bf16) (Q : Vec F S256x128 .bf16) : FVec F S512x256 .f32 :=
  k1_pay57 (BitVec.ofNat 32 t) (iota .tc S512x256 32 [0] iota_S512x256_d0_w32) (iota .tc S512x256 32 [1] iota_S512x256_d1_w32) (BitVec.ofNat 32 (t / 2)) K Q
/-- The scores of chunk `k`, head `h`. -/
def sc (t : ℕ) (x0 : Vec F S256x512 .bf16) (x1 : Vec F S4096x512 .bf16) (k h : ℕ) : FVec F S512x256 .f32 :=
  if k < t / 2 then k1_pay3 (kb x1 k h) (qb x0 h) else cblk t (kb x1 k h) (qb x0 h)
/-- The running maxima before chunk `k`. -/
def mx (x0 : Vec F S256x512 .bf16) (x1 : Vec F S4096x512 .bf16) (h : ℕ) : ℕ → FVec F S8x256 .f32
  | 0 => k1_pay40
  | k + 1 => k1_pay4 (mx x0 x1 h k) (kb x1 k h) (qb x0 h)
/-- The maxima with the last chunk. -/
def mxc (t : ℕ) (x0 : Vec F S256x512 .bf16) (x1 : Vec F S4096x512 .bf16) (h : ℕ) : FVec F S8x256 .f32 :=
  k1_pay58 (BitVec.ofNat 32 t) (iota .tc S512x256 32 [0] iota_S512x256_d0_w32) (iota .tc S512x256 32 [1] iota_S512x256_d1_w32) (mx x0 x1 h (t / 2)) (BitVec.ofNat 32 (t / 2)) (kb x1 (t / 2) h) (qb x0 h)
/-- Each query's maximum. -/
def rm (t : ℕ) (x0 : Vec F S256x512 .bf16) (x1 : Vec F S4096x512 .bf16) (h : ℕ) : FVec F S1x256 .f32 := k1_pay64 (mxc t x0 x1 h)
/-- The sums of the weights before chunk `k`. -/
def ls (t : ℕ) (x0 : Vec F S256x512 .bf16) (x1 : Vec F S4096x512 .bf16) (h : ℕ) : ℕ → FVec F S8x256 .f32
  | 0 => k1_pay68
  | k + 1 => k1_pay20 (rm t x0 x1 h) (ls t x0 x1 h k) (sc t x0 x1 k h)
/-- One chunk's step of the weighted values. -/
def accStep (h : ℕ) (m : FVec F S1x256 .f32) (a : FVec F S64x256 .f32) (V : Vec F S1x1x256x512 .bf16) (S : Vec F S512x256 .f32) : FVec F S64x256 .f32 :=
  match h with
  | 0 => k1_pay21 m a V S
  | 1 => k1_pay24 m a V S
  | 2 => k1_pay27 m a V S
  | _ => k1_pay78 a (k1_pay18 V) (k1_pay28 m S)
/-- The weighted values before chunk `k`. -/
def ac (t : ℕ) (x0 : Vec F S256x512 .bf16) (x1 : Vec F S4096x512 .bf16) (x2 : Vec F S1x8x256x512 .bf16) (h : ℕ) : ℕ → FVec F S64x256 .f32
  | 0 => k1_pay69
  | k + 1 => accStep h (rm t x0 x1 h) (ac t x0 x1 x2 h k) (vb x2 k) (sc t x0 x1 k h)
/-- The output block of query tile `t`. -/
def foxOut (t : ℕ) (x0 : Vec F S256x512 .bf16) (x1 : Vec F S4096x512 .bf16) (x2 : Vec F S1x8x256x512 .bf16) : FVec F S256x256 .bf16 :=
  k1_pay1 (ac t x0 x1 x2 3 (t / 2 + 1)) (k1_pay82 (ls t x0 x1 0 (t / 2 + 1)) (ac t x0 x1 x2 0 (t / 2 + 1)))
    (k1_pay83 (ls t x0 x1 1 (t / 2 + 1)) (ac t x0 x1 x2 1 (t / 2 + 1))) (k1_pay84 (ls t x0 x1 2 (t / 2 + 1)) (ac t x0 x1 x2 2 (t / 2 + 1)))
    (k1_pay85 (ls t x0 x1 3 (t / 2 + 1)))
/-- The scores, chunk after chunk and head beside head, as the scratch holds them. -/
def scs (t : ℕ) (x0 : Vec F S256x512 .bf16) (x1 : Vec F S4096x512 .bf16) : Vec F S4096x1024 .f32 := fun y =>
  sc t x0 x1 ((y 0).val / 512) ((y 1).val / 256) (ix 512 256 ((y 0).val % 512) ((y 1).val % 256))

/-! ## The loads -/

section
variable (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S1x8x256x512 .bf16) (harg4 : arg4.IsWhole) (arg5 : Memref sig .tc .vmem S256x256 .bf16) (harg5 : arg5.IsWhole) (arg6 : Memref sig .tc .vmem S4096x1024 .f32) (harg6 : arg6.IsWhole) (x0 : Vec F S256x512 .bf16) (x1 : Vec F S4096x512 .bf16) (x2 : Vec F S1x8x256x512 .bf16) (fs : BufTy.Contents (Elt F) arg6.view.ty)

include harg3 in
theorem kb_read {off : Fin 2 → ℕ} {k h : ℕ} (hoff : off = ![512 * k, 128 * h]) (inb : ∀ a, off a + S512x128.size a ≤ S4096x512.size a) :
    arg3.view.readAt (Elt F) (Rect.unit (s := S4096x512) off S512x128.size inb).toLoadRect (harg3.unread x1) = kb x1 k h := by
  refine (readAt_ix (n := 4096) (m := 512) (p := 512) (q := 128) arg3.view (harg3.unread x1) hoff inb).trans ?_
  rw [harg3.read_unread]; rfl

include harg2 in
theorem qb_read {off : Fin 2 → ℕ} {h : ℕ} (hoff : off = ![0, 128 * h]) (inb : ∀ a, off a + S256x128.size a ≤ S256x512.size a) :
    arg2.view.readAt (Elt F) (Rect.unit (s := S256x512) off S256x128.size inb).toLoadRect (harg2.unread x0) = qb x0 h := by
  refine (readAt_ix (n := 256) (m := 512) (p := 256) (q := 128) arg2.view (harg2.unread x0) hoff inb).trans ?_
  rw [harg2.read_unread]; rfl

include harg4 in
theorem vb_read {off : Fin 4 → ℕ} {k : ℕ} (hoff : off = ![0, k, 0, 0]) (inb : ∀ a, off a + S1x1x256x512.size a ≤ S1x8x256x512.size a) :
    arg4.view.readAt (Elt F) (Rect.unit (s := S1x8x256x512) off S1x1x256x512.size inb).toLoadRect (harg4.unread x2) = vb x2 k := by
  refine (readAt_ixv arg4.view (harg4.unread x2) hoff inb).trans ?_
  rw [harg4.read_unread]; rfl

/-! ## The scores loop -/

/-- What a trip of the scores loop yields. -/
theorem trip1_R (k : Fin (k1_t1_loop i).trips) (a : Acc4 F) :
    (trip1 (F := F) c i arg2 harg2 arg3 harg3 arg4 harg4 arg5 harg5 arg6 harg6 (harg2.unread x0) (harg3.unread x1) k).1 a
      = (k1_pay4 a.1 (kb x1 k.val 0) (qb x0 0), k1_pay4 a.2.1 (kb x1 k.val 1) (qb x0 1), k1_pay4 a.2.2.1 (kb x1 k.val 2) (qb x0 2), k1_pay4 a.2.2.2 (kb x1 k.val 3) (qb x0 3)) := by
  rw [← kb_read arg3 harg3 x1 (h := 0) (k1_off1_eq i k) (k1_off1_inb i k), ← kb_read arg3 harg3 x1 (h := 1) (k1_off3_eq i k) (k1_off3_inb i k),
    ← kb_read arg3 harg3 x1 (h := 2) (k1_off5_eq i k) (k1_off5_inb i k), ← kb_read arg3 harg3 x1 (h := 3) (k1_off7_eq i k) (k1_off7_inb i k),
    ← qb_read arg2 harg2 x0 (h := 0) rfl inb_S256x512_S256x128_0_0, ← qb_read arg2 harg2 x0 (h := 1) rfl inb_S256x512_S256x128_0_128,
    ← qb_read arg2 harg2 x0 (h := 2) rfl inb_S256x512_S256x128_0_256, ← qb_read arg2 harg2 x0 (h := 3) rfl inb_S256x512_S256x128_0_384]
  unfold trip1; rfl

/-- The pieces a trip of the scores loop writes. -/
theorem trip1_L (k : Fin (k1_t1_loop i).trips) :
    (trip1 (F := F) c i arg2 harg2 arg3 harg3 arg4 harg4 arg5 harg5 arg6 harg6 (harg2.unread x0) (harg3.unread x1) k).2.1
      = [⟨Rect.unit (s := S4096x1024) (k1_off8 i k) S512x256.size (k1_off8_inb i k), k1_pay3 (kb x1 k.val 3) (qb x0 3)⟩,
        ⟨Rect.unit (s := S4096x1024) (k1_off6 i k) S512x256.size (k1_off6_inb i k), k1_pay3 (kb x1 k.val 2) (qb x0 2)⟩,
        ⟨Rect.unit (s := S4096x1024) (k1_off4 i k) S512x256.size (k1_off4_inb i k), k1_pay3 (kb x1 k.val 1) (qb x0 1)⟩,
        ⟨Rect.unit (s := S4096x1024) (k1_off2 i k) S512x256.size (k1_off2_inb i k), k1_pay3 (kb x1 k.val 0) (qb x0 0)⟩] := by
  rw [← kb_read arg3 harg3 x1 (h := 0) (k1_off1_eq i k) (k1_off1_inb i k), ← kb_read arg3 harg3 x1 (h := 1) (k1_off3_eq i k) (k1_off3_inb i k),
    ← kb_read arg3 harg3 x1 (h := 2) (k1_off5_eq i k) (k1_off5_inb i k), ← kb_read arg3 harg3 x1 (h := 3) (k1_off7_eq i k) (k1_off7_inb i k),
    ← qb_read arg2 harg2 x0 (h := 0) rfl inb_S256x512_S256x128_0_0, ← qb_read arg2 harg2 x0 (h := 1) rfl inb_S256x512_S256x128_0_128,
    ← qb_read arg2 harg2 x0 (h := 2) rfl inb_S256x512_S256x128_0_256, ← qb_read arg2 harg2 x0 (h := 3) rfl inb_S256x512_S256x128_0_384]
  unfold trip1; rfl

/-- The accumulators before trip `k`. -/
theorem st1_fst : ∀ k : ℕ, k ≤ (i 1).val / 2 →
    (st1 (F := F) c i arg2 harg2 arg3 harg3 arg4 harg4 arg5 harg5 arg6 harg6 (harg2.unread x0) (harg3.unread x1) (k1_pay40, k1_pay41, k1_pay42, k1_pay43) k).1
      = (mx x0 x1 0 k, mx x0 x1 1 k, mx x0 x1 2 k, mx x0 x1 3 k)
  | 0, _ => rfl
  | k + 1, hk => by
    have h := st1_succ (F := F) c i arg2 harg2 arg3 harg3 arg4 harg4 arg5 harg5 arg6 harg6 (harg2.unread x0) (harg3.unread x1) (k1_pay40, k1_pay41, k1_pay42, k1_pay43) ⟨k, (trips1_eq i).symm ▸ hk⟩
    rw [show k + 1 = (⟨k, (trips1_eq i).symm ▸ hk⟩ : Fin (k1_t1_loop i).trips).val + 1 from rfl, h]
    dsimp only
    rw [trip1_R, st1_fst k (Nat.le_of_succ_le hk)]
    rfl

/-- A block of scores written at its place agrees with the whole of them. -/
theorem agree {off : Fin 2 → ℕ} {k h : ℕ} (hh : h < 4) (hoff : off = ![512 * k, 256 * h]) (inb : ∀ a, off a + S512x256.size a ≤ S4096x1024.size a)
    (t : ℕ) (p : View.Piece (Elt F) S4096x1024 .f32) (B : FVec F S512x256 .f32) (hB : B = sc t x0 x1 k h)
    (hp : p = ⟨Rect.unit (s := S4096x1024) off S512x256.size inb, B⟩) (x : p.1.shape.Idx) : p.2 x = scs t x0 x1 (p.1.emb x) := by
  subst hp hB
  have hx0 : (x 0).val < 512 := (x 0).isLt
  have hx1 : (x 1).val < 256 := (x 1).isLt
  obtain ⟨e0, e1⟩ := emb_ix (n := 4096) (m := 1024) (p := 512) (q := 256) hoff inb x
  have a0 : (512 * k + (x 0).val) / 512 = k := by omega
  have a1 : (512 * k + (x 0).val) % 512 = (x 0).val := by omega
  have b0 : (256 * h + (x 1).val) / 256 = h := by omega
  have b1 : (256 * h + (x 1).val) % 256 = (x 1).val := by omega
  unfold scs
  rw [e0, e1, a0, a1, b0, b1]
  refine congrArg (sc t x0 x1 k h) (funext fun a => Fin.ext ?_)
  match a with
  | ⟨0, _⟩ => exact (Nat.mod_eq_of_lt hx0).symm
  | ⟨1, _⟩ => exact (Nat.mod_eq_of_lt hx1).symm

/-- The pieces written before trip `k` agree with the scores and hold the places of the chunks before `k`. -/
theorem st1_snd : ∀ k : ℕ, k ≤ (i 1).val / 2 →
    (∀ p ∈ (st1 (F := F) c i arg2 harg2 arg3 harg3 arg4 harg4 arg5 harg5 arg6 harg6 (harg2.unread x0) (harg3.unread x1) (k1_pay40, k1_pay41, k1_pay42, k1_pay43) k).2, ∀ x : p.1.shape.Idx,
        p.2 x = scs (i 1).val x0 x1 (p.1.emb x))
      ∧ ∀ y : S4096x1024.Idx, (y 0).val < 512 * k →
        ∃ p ∈ (st1 (F := F) c i arg2 harg2 arg3 harg3 arg4 harg4 arg5 harg5 arg6 harg6 (harg2.unread x0) (harg3.unread x1) (k1_pay40, k1_pay41, k1_pay42, k1_pay43) k).2, y ∈ p.1.set
  | 0, _ => ⟨fun p hp => absurd hp List.not_mem_nil, fun y hy => absurd hy (by omega)⟩
  | k + 1, hk => by
    have h := st1_succ (F := F) c i arg2 harg2 arg3 harg3 arg4 harg4 arg5 harg5 arg6 harg6 (harg2.unread x0) (harg3.unread x1) (k1_pay40, k1_pay41, k1_pay42, k1_pay43) ⟨k, (trips1_eq i).symm ▸ hk⟩
    obtain ⟨ih1, ih2⟩ := st1_snd k (Nat.le_of_succ_le hk)
    rw [show k + 1 = (⟨k, (trips1_eq i).symm ▸ hk⟩ : Fin (k1_t1_loop i).trips).val + 1 from rfl, h]
    dsimp only
    rw [trip1_L]
    have hs : ∀ h : ℕ, k1_pay3 (kb x1 k h) (qb x0 h) = sc (i 1).val x0 x1 k h := fun h => (if_pos hk).symm
    constructor
    · intro p hp
      rcases List.mem_append.mp hp with hp | hp
      · rcases List.mem_cons.mp hp with hp | hp
        · exact agree x0 x1 (h := 3) (by omega) (k1_off8_eq i ⟨k, _⟩) (k1_off8_inb i ⟨k, _⟩) _ p _ (hs 3) hp
        rcases List.mem_cons.mp hp with hp | hp
        · exact agree x0 x1 (h := 2) (by omega) (k1_off6_eq i ⟨k, _⟩) (k1_off6_inb i ⟨k, _⟩) _ p _ (hs 2) hp
        rcases List.mem_cons.mp hp with hp | hp
        · exact agree x0 x1 (h := 1) (by omega) (k1_off4_eq i ⟨k, _⟩) (k1_off4_inb i ⟨k, _⟩) _ p _ (hs 1) hp
        rcases List.mem_cons.mp hp with hp | hp
        · exact agree x0 x1 (h := 0) (by omega) (k1_off2_eq i ⟨k, _⟩) (k1_off2_inb i ⟨k, _⟩) _ p _ (hs 0) hp
        exact absurd hp List.not_mem_nil
      · exact ih1 p hp
    · intro y hy
      have y1 : (y 1).val < 1024 := (y 1).isLt
      by_cases hlt : (y 0).val < 512 * k
      · obtain ⟨p, hp, hm⟩ := ih2 y hlt
        exact ⟨p, List.mem_append.mpr (.inr hp), hm⟩
      · have hy' : (y 0).val < 512 * (k + 1) := hy
        rcases (by omega : (y 1).val < 256 ∨ (256 ≤ (y 1).val ∧ (y 1).val < 512) ∨ (512 ≤ (y 1).val ∧ (y 1).val < 768) ∨ 768 ≤ (y 1).val) with h | h | h | h
        · exact ⟨_, List.mem_append.mpr (.inl (.tail _ (.tail _ (.tail _ (.head _))))), mem_rect_ix (k1_off2_eq i ⟨k, _⟩) (k1_off2_inb i ⟨k, _⟩) y (by dsimp only; omega) (by dsimp only; omega) (by omega) (by omega)⟩
        · exact ⟨_, List.mem_append.mpr (.inl (.tail _ (.tail _ (.head _)))), mem_rect_ix (k1_off4_eq i ⟨k, _⟩) (k1_off4_inb i ⟨k, _⟩) y (by dsimp only; omega) (by dsimp only; omega) (by omega) (by omega)⟩
        · exact ⟨_, List.mem_append.mpr (.inl (.tail _ (.head _))), mem_rect_ix (k1_off6_eq i ⟨k, _⟩) (k1_off6_inb i ⟨k, _⟩) y (by dsimp only; omega) (by dsimp only; omega) (by omega) (by omega)⟩
        · exact ⟨_, List.mem_append.mpr (.inl (.head _)), mem_rect_ix (k1_off8_eq i ⟨k, _⟩) (k1_off8_inb i ⟨k, _⟩) y (by dsimp only; omega) (by dsimp only; omega) (by omega) (by omega)⟩

/-! ## The attend loop -/

/-- The number of chunks attended to. -/
theorem trips3_eq : (k1_t3_loop i).trips = (i 1).val / 2 + 1 := by
  have h : ∀ j : Fin 16, Scf.trips (k1_t3_loop (fun a => match a with | 0 => (0 : Fin 16) | 1 => j)).lb (k1_t3_loop (fun a => match a with | 0 => (0 : Fin 16) | 1 => j)).ub (k1_t3_loop (fun a => match a with | 0 => (0 : Fin 16) | 1 => j)).st = j.val / 2 + 1 := by
    decide +kernel
  exact h (i 1)

theorem trip3_lt (k : Fin (k1_t3_loop i).trips) : k.val < 8 := by
  have h : k.val < (i 1).val / 2 + 1 := lt_of_lt_of_eq k.isLt (trips3_eq i)
  have hi : (i 1).val < 16 := (i 1).isLt
  omega

theorem k1_off25_eq (k : Fin (k1_t3_loop i).trips) : k1_off25 i k = ![0, k.val, 0, 0] := by
  have h : ∀ j : Fin 8, (Scalar.indexCast (Scf.iv 0#32 1#32 j.val)).toNat = j.val := by decide +kernel
  unfold k1_off25; exact congrArg (![0, ·, 0, 0]) (h ⟨k.val, trip3_lt i k⟩)
theorem k1_off26_eq (k : Fin (k1_t3_loop i).trips) : k1_off26 i k = ![512 * k.val, 0] := by
  unfold k1_off26; exact congrArg (![·, 0]) (chunk_word k.val (trip3_lt i k))
theorem k1_off27_eq (k : Fin (k1_t3_loop i).trips) : k1_off27 i k = ![512 * k.val, 256] := by
  unfold k1_off27; exact congrArg (![·, 256]) (chunk_word k.val (trip3_lt i k))
theorem k1_off28_eq (k : Fin (k1_t3_loop i).trips) : k1_off28 i k = ![512 * k.val, 512] := by
  unfold k1_off28; exact congrArg (![·, 512]) (chunk_word k.val (trip3_lt i k))
theorem k1_off29_eq (k : Fin (k1_t3_loop i).trips) : k1_off29 i k = ![512 * k.val, 768] := by
  unfold k1_off29; exact congrArg (![·, 768]) (chunk_word k.val (trip3_lt i k))

/-- What a trip of the attend loop yields, the scratch holding the scores. -/
theorem trip3_R (t : ℕ) (k : Fin (k1_t3_loop i).trips) (v17 : BitVec 32) (v31_3 v56 v78 v100 : FVec F S8x256 .f32) (v115 : FVec F S512x256 .f32)
    (g : BufTy.Contents (Elt F) arg6.view.ty) (a : FVec F S8x256 .f32 × FVec F S64x256 .f32 × FVec F S8x256 .f32 × FVec F S64x256 .f32 × FVec F S8x256 .f32 × FVec F S64x256 .f32 × FVec F S8x256 .f32 × FVec F S64x256 .f32)
    (m0 : k1_pay64 v56 = rm t x0 x1 0) (m1 : k1_pay65 v78 = rm t x0 x1 1) (m2 : k1_pay66 v100 = rm t x0 x1 2) (m3 : k1_pay67 v31_3 v115 = rm t x0 x1 3)
    (g0 : arg6.view.readAt (Elt F) (Rect.unit (s := S4096x1024) (k1_off26 i k) S512x256.size (k1_off26_inb i k)).toLoadRect g = sc t x0 x1 k.val 0)
    (g1 : arg6.view.readAt (Elt F) (Rect.unit (s := S4096x1024) (k1_off27 i k) S512x256.size (k1_off27_inb i k)).toLoadRect g = sc t x0 x1 k.val 1)
    (g2 : arg6.view.readAt (Elt F) (Rect.unit (s := S4096x1024) (k1_off28 i k) S512x256.size (k1_off28_inb i k)).toLoadRect g = sc t x0 x1 k.val 2)
    (g3 : arg6.view.readAt (Elt F) (Rect.unit (s := S4096x1024) (k1_off29 i k) S512x256.size (k1_off29_inb i k)).toLoadRect g = sc t x0 x1 k.val 3) :
    tripR_k1_t3 (F := F) Variants.none c none i arg2 harg2 arg3 harg3 arg4 harg4 arg5 harg5 arg6 harg6 v17 v31_3 v56 v78 v100 v115 (harg4.unread x2) g k a
      = (k1_pay20 (rm t x0 x1 0) a.1 (sc t x0 x1 k.val 0), accStep 0 (rm t x0 x1 0) a.2.1 (vb x2 k.val) (sc t x0 x1 k.val 0),
        k1_pay20 (rm t x0 x1 1) a.2.2.1 (sc t x0 x1 k.val 1), accStep 1 (rm t x0 x1 1) a.2.2.2.1 (vb x2 k.val) (sc t x0 x1 k.val 1),
        k1_pay20 (rm t x0 x1 2) a.2.2.2.2.1 (sc t x0 x1 k.val 2), accStep 2 (rm t x0 x1 2) a.2.2.2.2.2.1 (vb x2 k.val) (sc t x0 x1 k.val 2),
        k1_pay20 (rm t x0 x1 3) a.2.2.2.2.2.2.1 (sc t x0 x1 k.val 3), accStep 3 (rm t x0 x1 3) a.2.2.2.2.2.2.2 (vb x2 k.val) (sc t x0 x1 k.val 3)) := by
  rw [← m0, ← m1, ← m2, ← m3, ← g0, ← g1, ← g2, ← g3, ← vb_read arg4 harg4 x2 (k1_off25_eq i k) (k1_off25_inb i k)]
  unfold tripR_k1_t3 trip_k1_t3; rfl

/-- The carried values before trip `k` of the attend loop. -/
theorem st3_eq (t : ℕ) (v17 : BitVec 32) (v31_3 v56 v78 v100 : FVec F S8x256 .f32) (v115 : FVec F S512x256 .f32) (g : BufTy.Contents (Elt F) arg6.view.ty)
    (m0 : k1_pay64 v56 = rm t x0 x1 0) (m1 : k1_pay65 v78 = rm t x0 x1 1) (m2 : k1_pay66 v100 = rm t x0 x1 2) (m3 : k1_pay67 v31_3 v115 = rm t x0 x1 3)
    (hg : ∀ (k h : ℕ) (off : Fin 2 → ℕ) (inb : ∀ a, off a + S512x256.size a ≤ S4096x1024.size a), off = ![512 * k, 256 * h] → k < (i 1).val / 2 + 1 → h < 4 →
      arg6.view.readAt (Elt F) (Rect.unit (s := S4096x1024) off S512x256.size inb).toLoadRect g = sc t x0 x1 k h) :
    ∀ k : ℕ, k ≤ (i 1).val / 2 + 1 →
    st_k1_t3 (F := F) Variants.none c none i arg2 harg2 arg3 harg3 arg4 harg4 arg5 harg5 arg6 harg6 v17 v31_3 v56 v78 v100 v115 (harg4.unread x2) g (k1_pay68, k1_pay69, k1_pay70, k1_pay71, k1_pay72, k1_pay73, k1_pay74, k1_pay75) k
      = (ls t x0 x1 0 k, ac t x0 x1 x2 0 k, ls t x0 x1 1 k, ac t x0 x1 x2 1 k, ls t x0 x1 2 k, ac t x0 x1 x2 2 k, ls t x0 x1 3 k, ac t x0 x1 x2 3 k)
  | 0, _ => rfl
  | k + 1, hk => by
    have hk' : k < (k1_t3_loop i).trips := by rw [trips3_eq]; exact hk
    have h := st_k1_t3_succ (F := F) Variants.none c none i arg2 harg2 arg3 harg3 arg4 harg4 arg5 harg5 arg6 harg6 v17 v31_3 v56 v78 v100 v115 (harg4.unread x2) g (k1_pay68, k1_pay69, k1_pay70, k1_pay71, k1_pay72, k1_pay73, k1_pay74, k1_pay75) ⟨k, hk'⟩
    rw [show k + 1 = (⟨k, hk'⟩ : Fin (k1_t3_loop i).trips).val + 1 from rfl, h,
      trip3_R c i arg2 harg2 arg3 harg3 arg4 harg4 arg5 harg5 arg6 harg6 x0 x1 x2 t ⟨k, hk'⟩ v17 v31_3 v56 v78 v100 v115 g _ m0 m1 m2 m3
        (hg k 0 _ _ (k1_off26_eq i ⟨k, hk'⟩) hk (by omega)) (hg k 1 _ _ (k1_off27_eq i ⟨k, hk'⟩) hk (by omega))
        (hg k 2 _ _ (k1_off28_eq i ⟨k, hk'⟩) hk (by omega)) (hg k 3 _ _ (k1_off29_eq i ⟨k, hk'⟩) hk (by omega)),
      st3_eq t v17 v31_3 v56 v78 v100 v115 g m0 m1 m2 m3 hg k (Nat.le_of_succ_le hk)]
    rfl

/-! ## The whole body -/

/-- The number of the last chunk, as the body computes it. -/
theorem last_word : foxRun.sl.v32 i = BitVec.ofNat 32 ((i 1).val / 2) := by
  have h : ∀ j : Fin 16, foxRun.sl.v32 (fun a => match a with | 0 => (0 : Fin 16) | 1 => j) = BitVec.ofNat 32 (j.val / 2) := by decide +kernel
  exact h (i 1)

/-- The scores the scratch holds when the attend loop starts. -/
abbrev LS : List (View.Piece (Elt F) S4096x1024 .f32) :=
  ⟨Rect.unit (s := S4096x1024) (k1_off24 i) S512x256.size (k1_off24_inb i), cblk (i 1).val (kb x1 ((i 1).val / 2) 3) (qb x0 3)⟩
  :: ⟨Rect.unit (s := S4096x1024) (k1_off22 i) S512x256.size (k1_off22_inb i), cblk (i 1).val (kb x1 ((i 1).val / 2) 2) (qb x0 2)⟩
  :: ⟨Rect.unit (s := S4096x1024) (k1_off20 i) S512x256.size (k1_off20_inb i), cblk (i 1).val (kb x1 ((i 1).val / 2) 1) (qb x0 1)⟩
  :: ⟨Rect.unit (s := S4096x1024) (k1_off18 i) S512x256.size (k1_off18_inb i), cblk (i 1).val (kb x1 ((i 1).val / 2) 0) (qb x0 0)⟩
  :: (st1 (F := F) c i arg2 harg2 arg3 harg3 arg4 harg4 arg5 harg5 arg6 harg6 (harg2.unread x0) (harg3.unread x1) (k1_pay40, k1_pay41, k1_pay42, k1_pay43) (Scf.trips (k1_t1_loop i).lb (k1_t1_loop i).ub (k1_t1_loop i).st)).2

theorem LS_read (k h : ℕ) (off : Fin 2 → ℕ) (inb : ∀ a, off a + S512x256.size a ≤ S4096x1024.size a) (hoff : off = ![512 * k, 256 * h])
    (hk : k < (i 1).val / 2 + 1) (hh : h < 4) :
    arg6.view.readAt (Elt F) (Rect.unit (s := S4096x1024) off S512x256.size inb).toLoadRect (arg6.view.writes (Elt F) fs (LS (F := F) c i arg2 harg2 arg3 harg3 arg4 harg4 arg5 harg5 arg6 harg6 x0 x1))
      = sc (i 1).val x0 x1 k h := by
  have hi : (i 1).val < 16 := (i 1).isLt
  obtain ⟨h1, h2⟩ := st1_snd (F := F) c i arg2 harg2 arg3 harg3 arg4 harg4 arg5 harg5 arg6 harg6 x0 x1 ((i 1).val / 2) (le_refl _)
  have htr : Scf.trips (k1_t1_loop i).lb (k1_t1_loop i).ub (k1_t1_loop i).st = (i 1).val / 2 := trips1_eq i
  have hs : ∀ h : ℕ, cblk (i 1).val (kb x1 ((i 1).val / 2) h) (qb x0 h) = sc (i 1).val x0 x1 ((i 1).val / 2) h := fun h => (if_neg (Nat.lt_irrefl _)).symm
  funext x
  have hx0 : (x 0).val < 512 := (x 0).isLt
  have hx1 : (x 1).val < 256 := (x 1).isLt
  refine (congrFun (readAt_ix (n := 4096) (m := 1024) (p := 512) (q := 256) arg6.view _ hoff inb) x).trans ?_
  refine (View.read_writes_apply_of_pieces arg6.view fs (scs (i 1).val x0 x1) _ ?_ _ ?_).trans ?_
  · intro p hp
    rcases List.mem_cons.mp hp with hp | hp
    · exact agree x0 x1 (h := 3) (by omega) (k1_off24_eq i) (k1_off24_inb i) _ p _ (hs 3) hp
    rcases List.mem_cons.mp hp with hp | hp
    · exact agree x0 x1 (h := 2) (by omega) (k1_off22_eq i) (k1_off22_inb i) _ p _ (hs 2) hp
    rcases List.mem_cons.mp hp with hp | hp
    · exact agree x0 x1 (h := 1) (by omega) (k1_off20_eq i) (k1_off20_inb i) _ p _ (hs 1) hp
    rcases List.mem_cons.mp hp with hp | hp
    · exact agree x0 x1 (h := 0) (by omega) (k1_off18_eq i) (k1_off18_inb i) _ p _ (hs 0) hp
    rw [htr] at hp
    exact h1 p hp
  · have e0 : ((ix 4096 1024 (512 * k + (x 0).val) (256 * h + (x 1).val)) 0).val = 512 * k + (x 0).val := Nat.mod_eq_of_lt (by omega)
    have e1 : ((ix 4096 1024 (512 * k + (x 0).val) (256 * h + (x 1).val)) 1).val = 256 * h + (x 1).val := Nat.mod_eq_of_lt (by omega)
    by_cases hlt : k < (i 1).val / 2
    · obtain ⟨p, hp, hm⟩ := h2 (ix 4096 1024 (512 * k + (x 0).val) (256 * h + (x 1).val)) (by rw [e0]; omega)
      exact ⟨p, .tail _ (.tail _ (.tail _ (.tail _ (by rw [htr]; exact hp)))), hm⟩
    · have hk' : k = (i 1).val / 2 := by omega
      rcases (by omega : h = 0 ∨ h = 1 ∨ h = 2 ∨ h = 3) with h | h | h | h
      · exact ⟨_, .tail _ (.tail _ (.tail _ (.head _))), mem_rect_ix (k1_off18_eq i) (k1_off18_inb i) _ (by rw [e0]; omega) (by rw [e0]; omega) (by rw [e1]; omega) (by rw [e1]; omega)⟩
      · exact ⟨_, .tail _ (.tail _ (.head _)), mem_rect_ix (k1_off20_eq i) (k1_off20_inb i) _ (by rw [e0]; omega) (by rw [e0]; omega) (by rw [e1]; omega) (by rw [e1]; omega)⟩
      · exact ⟨_, .tail _ (.head _), mem_rect_ix (k1_off22_eq i) (k1_off22_inb i) _ (by rw [e0]; omega) (by rw [e0]; omega) (by rw [e1]; omega) (by rw [e1]; omega)⟩
      · exact ⟨_, .head _, mem_rect_ix (k1_off24_eq i) (k1_off24_inb i) _ (by rw [e0]; omega) (by rw [e0]; omega) (by rw [e1]; omega) (by rw [e1]; omega)⟩
  · have e0 : ((ix 4096 1024 (512 * k + (x 0).val) (256 * h + (x 1).val)) 0).val = 512 * k + (x 0).val := Nat.mod_eq_of_lt (by omega)
    have e1 : ((ix 4096 1024 (512 * k + (x 0).val) (256 * h + (x 1).val)) 1).val = 256 * h + (x 1).val := Nat.mod_eq_of_lt (by omega)
    have a0 : (512 * k + (x 0).val) / 512 = k := by omega
    have a1 : (512 * k + (x 0).val) % 512 = (x 0).val := by omega
    have b0 : (256 * h + (x 1).val) / 256 = h := by omega
    have b1 : (256 * h + (x 1).val) % 256 = (x 1).val := by omega
    unfold scs
    rw [e0, e1, a0, a1, b0, b1]
    refine congrArg (sc (i 1).val x0 x1 k h) (funext fun a => Fin.ext ?_)
    match a with
    | ⟨0, _⟩ => exact Nat.mod_eq_of_lt hx0
    | ⟨1, _⟩ => exact Nat.mod_eq_of_lt hx1

/-- THE BODY'S OUTPUT: one piece, the whole block, at the closed form. -/
theorem foxRun_fst : (foxRun (F := F) c i arg2 harg2 arg3 harg3 arg4 harg4 arg5 harg5 arg6 harg6 x0 x1 x2 fs).1
    = [⟨Rect.unit (s := S256x256) ![0, 0] S256x256.size inb_S256x256_S256x256_0_0, foxOut (i 1).val x0 x1 x2⟩] := by
  have htr1 : Scf.trips (k1_t1_loop i).lb (k1_t1_loop i).ub (k1_t1_loop i).st = (i 1).val / 2 := trips1_eq i
  have htr3 : Scf.trips (k1_t3_loop i).lb (k1_t3_loop i).ub (k1_t3_loop i).st = (i 1).val / 2 + 1 := trips3_eq i
  have hst := st1_fst (F := F) c i arg2 harg2 arg3 harg3 arg4 harg4 arg5 harg5 arg6 harg6 x0 x1 ((i 1).val / 2) (le_refl _)
  have K0 := kb_read arg3 harg3 x1 (h := 0) (k1_off17_eq i) (k1_off17_inb i)
  have K1 := kb_read arg3 harg3 x1 (h := 1) (k1_off19_eq i) (k1_off19_inb i)
  have K2 := kb_read arg3 harg3 x1 (h := 2) (k1_off21_eq i) (k1_off21_inb i)
  have K3 := kb_read arg3 harg3 x1 (h := 3) (k1_off23_eq i) (k1_off23_inb i)
  have Q0 : arg2.view.readAt (Elt F) (Rect.unit (s := S256x512) ![0, 0] S256x128.size inb_S256x512_S256x128_0_0).toLoadRect (harg2.unread x0) = qb x0 0 := qb_read arg2 harg2 x0 (h := 0) rfl inb_S256x512_S256x128_0_0
  have Q1 : arg2.view.readAt (Elt F) (Rect.unit (s := S256x512) ![0, 128] S256x128.size inb_S256x512_S256x128_0_128).toLoadRect (harg2.unread x0) = qb x0 1 := qb_read arg2 harg2 x0 (h := 1) rfl inb_S256x512_S256x128_0_128
  have Q2 : arg2.view.readAt (Elt F) (Rect.unit (s := S256x512) ![0, 256] S256x128.size inb_S256x512_S256x128_0_256).toLoadRect (harg2.unread x0) = qb x0 2 := qb_read arg2 harg2 x0 (h := 2) rfl inb_S256x512_S256x128_0_256
  have Q3 : arg2.view.readAt (Elt F) (Rect.unit (s := S256x512) ![0, 384] S256x128.size inb_S256x512_S256x128_0_384).toLoadRect (harg2.unread x0) = qb x0 3 := qb_read arg2 harg2 x0 (h := 3) rfl inb_S256x512_S256x128_0_384
  have hw := last_word i
  have R0 : foxRun.sl.r (F := F) c i arg2 harg2 arg3 harg3 arg4 harg4 arg5 harg5 arg6 harg6 x0 x1 = mx x0 x1 0 ((i 1).val / 2) := by
    unfold foxRun.sl.r; rw [htr1]; exact congrArg (fun z : Acc4 F => z.1) hst
  have R1 : foxRun.sl.r_1 (F := F) c i arg2 harg2 arg3 harg3 arg4 harg4 arg5 harg5 arg6 harg6 x0 x1 = mx x0 x1 1 ((i 1).val / 2) := by
    unfold foxRun.sl.r_1; rw [htr1]; exact congrArg (fun z : Acc4 F => z.2.1) hst
  have R2 : foxRun.sl.r_2 (F := F) c i arg2 harg2 arg3 harg3 arg4 harg4 arg5 harg5 arg6 harg6 x0 x1 = mx x0 x1 2 ((i 1).val / 2) := by
    unfold foxRun.sl.r_2; rw [htr1]; exact congrArg (fun z : Acc4 F => z.2.2.1) hst
  have R3 : foxRun.sl.r_3 (F := F) c i arg2 harg2 arg3 harg3 arg4 harg4 arg5 harg5 arg6 harg6 x0 x1 = mx x0 x1 3 ((i 1).val / 2) := by
    unfold foxRun.sl.r_3; rw [htr1]; exact congrArg (fun z : Acc4 F => z.2.2.2) hst
  have M0 : foxRun.sl.r_5 (F := F) c i arg2 harg2 arg3 harg3 arg4 harg4 arg5 harg5 arg6 harg6 x0 x1 = mxc (i 1).val x0 x1 0 := by
    unfold foxRun.sl.r_5 foxRun.sl.r_4; rw [R0, hw, K0, Q0]; rfl
  have M1 : foxRun.sl.r_6 (F := F) c i arg2 harg2 arg3 harg3 arg4 harg4 arg5 harg5 arg6 harg6 x0 x1 = mxc (i 1).val x0 x1 1 := by
    unfold foxRun.sl.r_6; rw [R1, hw, K1, Q1]; rfl
  have M2 : foxRun.sl.r_7 (F := F) c i arg2 harg2 arg3 harg3 arg4 harg4 arg5 harg5 arg6 harg6 x0 x1 = mxc (i 1).val x0 x1 2 := by
    unfold foxRun.sl.r_7; rw [R2, hw, K2, Q2]; rfl
  have M3 : k1_pay67 (foxRun.sl.r_3 (F := F) c i arg2 harg2 arg3 harg3 arg4 harg4 arg5 harg5 arg6 harg6 x0 x1) (foxRun.sl.r_8 (F := F) i arg2 harg2 arg3 harg3 x0 x1) = rm (i 1).val x0 x1 3 := by
    unfold foxRun.sl.r_8; rw [R3, hw, K3, Q3]; rfl
  have hL := st3_eq (F := F) c i arg2 harg2 arg3 harg3 arg4 harg4 arg5 harg5 arg6 harg6 x0 x1 x2 (i 1).val (foxRun.sl.v17 i) _ _ _ _ _ _
    (congrArg k1_pay64 M0) (congrArg k1_pay65 M1) (congrArg k1_pay66 M2) M3 (LS_read (F := F) c i arg2 harg2 arg3 harg3 arg4 harg4 arg5 harg5 arg6 harg6 x0 x1 fs) ((i 1).val / 2 + 1) (le_refl _)
  unfold foxRun; dsimp only
  unfold foxRun.sl.r_9 foxRun.sl.r_10 foxRun.sl.r_11 foxRun.sl.r_12 foxRun.sl.r_13
  unfold foxRun.sl.r_4
  rw [K0, K1, K2, K3, Q0, Q1, Q2, Q3, hw, htr3]
  refine congrArg (fun z => [(⟨Rect.unit (s := S256x256) ![0, 0] S256x256.size inb_S256x256_S256x256_0_0, z⟩ : View.Piece (Elt F) S256x256 .bf16)]) ?_
  exact congrArg (fun (z : FVec F S8x256 .f32 × FVec F S64x256 .f32 × FVec F S8x256 .f32 × FVec F S64x256 .f32 × FVec F S8x256 .f32 × FVec F S64x256 .f32 × FVec F S8x256 .f32 × FVec F S64x256 .f32) =>
    k1_pay1 z.2.2.2.2.2.2.2 (k1_pay82 z.1 z.2.1) (k1_pay83 z.2.2.1 z.2.2.2.1) (k1_pay84 z.2.2.2.2.1 z.2.2.2.2.2.1) (k1_pay85 z.2.2.2.2.2.2.1)) hL
end

end Cert.Fox.KernelIdeal

end
-- ==== Proof.IdealLaunch.lean ====
/-
  The launch of the forgetting attention: the prefix sum of the gates and the attention, with the host's work around them,
  run from any memory. What each region leaves is stated point by point; the run ends with the arguments unchanged.
-/
module

public import proofs.«01_k».proof.Proof.IdealClosed
public import Idealize.ShloMosaic.Lib.VecWindow
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Fox.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- The block of an input of the prefix sum, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S64x4096 := Rect.unit (s := S64x4096) ![0, 0] S64x4096.size inb_S64x4096_S64x4096_0_0
abbrev r0_1 : Rect S64x1 := Rect.unit (s := S64x1) ![0, 0] S64x1.size inb_S64x1_S64x1_0_0
abbrev r0_2 : Rect S3x64x4096 := Rect.unit (s := S3x64x4096) ![0, 0, 0] S1x64x4096.size inb_S3x64x4096_S1x64x4096_0_0_0
abbrev r0_3 : Rect S3x64x4096 := Rect.unit (s := S3x64x4096) ![1, 0, 0] S1x64x4096.size inb_S3x64x4096_S1x64x4096_1_0_0
abbrev r0_4 : Rect S3x64x4096 := Rect.unit (s := S3x64x4096) ![2, 0, 0] S1x64x4096.size inb_S3x64x4096_S1x64x4096_2_0_0

def k0_pay12 (x0 : Vec F S64x4096 .f32) (x1 : Vec F S64x1 .f32) : IVec S64x4096 32 :=
  iota .tc S64x4096 32 [1] iota_S64x4096_d1_w32
def k0_pay13 (x0 : Vec F S64x4096 .f32) (x1 : Vec F S64x1 .f32) : FVec F S64x4096 .f32 :=
  k0_pay8 (View.ld x0 r0_0) (View.ld x1 r0_1)
def k0_pay14 (x0 : Vec F S64x4096 .f32) (x1 : Vec F S64x1 .f32) : IVec S64x4096 32 :=
  k0_pay9
def k0_pay15 (x0 : Vec F S64x4096 .f32) (x1 : Vec F S64x1 .f32) : FVec F S64x4096 .f32 :=
  k0_pay10 (k0_pay12 x0 x1) (k0_pay13 x0 x1) (k0_pay14 x0 x1)
def k0_pay16 (x0 : Vec F S64x4096 .f32) (x1 : Vec F S64x1 .f32) : FVec F S64x4096 .f32 :=
  k0_pay11 (k0_pay12 x0 x1) (k0_pay13 x0 x1) (k0_pay14 x0 x1)

def out0_2 (x0 : Vec F S64x4096 .f32) (x1 : Vec F S64x1 .f32) : Vec F S3x64x4096 .bf16 :=
  View.canon [⟨r0_4, k0_pay7 (k0_pay12 x0 x1) (k0_pay15 x0 x1) (k0_pay16 x0 x1)⟩,
    ⟨r0_3, k0_pay6 (k0_pay12 x0 x1) (k0_pay15 x0 x1) (k0_pay16 x0 x1)⟩,
    ⟨r0_2, k0_pay5 (k0_pay12 x0 x1) (k0_pay15 x0 x1) (k0_pay16 x0 x1)⟩]
theorem cover0_2 (p0 : Vec F S1x64x4096 .bf16) (p1 : Vec F S1x64x4096 .bf16) (p2 : Vec F S1x64x4096 .bf16) (y : S3x64x4096.Idx) :
    ∃ pc ∈ ([⟨r0_4, p0⟩, ⟨r0_3, p1⟩, ⟨r0_2, p2⟩] : List (View.Piece (Elt F) S3x64x4096 .bf16)), y ∈ pc.1.set :=
  View.cover_of_tiled [⟨r0_4, p0⟩, ⟨r0_3, p1⟩, ⟨r0_2, p2⟩] S1x64x4096.size (by rfl) y

set_option maxHeartbeats 1000000 in
/-- The prefix-sum body on whole memrefs: the output ends at its three stored pieces. -/
theorem sound_kernel0 (c : Dev nD) (E : Set ℕ) (i : grid0.Coords) (arg1 : Memref sig .tc .vmem S64x4096 .f32) (harg1 : arg1.IsWhole) (arg2 : Memref sig .tc .vmem S64x1 .f32) (harg2 : arg2.IsWhole) (arg3 : Memref sig .tc .vmem S3x64x4096 .bf16) (harg3 : arg3.IsWhole)
    (x0 : Vec F S64x4096 .f32) (x1 : Vec F S64x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_forget_prefix i arg1 harg1 arg2 harg2 arg3 harg3) K := by
  simp only [cc0_forget_prefix_eq_skeleton]; unfold cc0_forget_prefix_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _)).trans ?_
  rfl

/-- The prefix sum's data: its arrays as found, its buffers after the body. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The prefix-sum body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The block of an input of the attention, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev VO1_3 : View sig .tc .vmem S256x256 .bf16 := (Memref.whole cc1_stg3_0 : Memref sig .tc .vmem S256x256 .bf16).view
abbrev ms1_0 (t : Fin cfg1.N) : Memref sig .tc .vmem S256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x256x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev scM1_0 : Memref sig .tc .vmem S4096x1024 .f32 := Memref.whole cc1_scratch0

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

/-- A buffer held at some contents, as its place in memory holding some bytes. -/
theorem owns_open (c : Dev nD) {s : Shape} {e : EltTy} (a : Memref sig .tc .vmem s e) (d : Vec F s e) :
    (owns (c : Thread nD τ) a fullShare d : sProp 𝕄) ⊢ iprop(∃ f, a.view.loc (c : Thread nD τ) ↦[a.view.set]{fullShare} f) := by
  unfold owns
  iintro ⟨%f, -, H⟩
  iexists f; iexact H

/-- The attention body on whole memrefs: the output ends at the closed form of the inputs, the scratch at anything. -/
theorem sound_kernel1 (c : Dev nD) (E : Set ℕ) (i : grid1.Coords) (arg2 : Memref sig .tc .vmem S256x512 .bf16) (harg2 : arg2.IsWhole) (arg3 : Memref sig .tc .vmem S4096x512 .bf16) (harg3 : arg3.IsWhole) (arg4 : Memref sig .tc .vmem S1x8x256x512 .bf16) (harg4 : arg4.IsWhole) (arg5 : Memref sig .tc .vmem S256x256 .bf16) (harg5 : arg5.IsWhole) (arg6 : Memref sig .tc .vmem S4096x1024 .f32) (harg6 : arg6.IsWhole)
    (x0 : Vec F S256x512 .bf16) (x1 : Vec F S4096x512 .bf16) (x2 : Vec F S1x8x256x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (foxOut (i 1).val x0 x1 x2) ∗ (∃ d, owns (c : Thread nD τ) arg6 fullShare d)) -∗ K ⟨⟩))
      ⊢ wp frame (wpE (defs₀ (F := F)) Variants.none c none) E (cc1_fox_attention i arg2 harg2 arg3 harg3 arg4 harg4 arg5 harg5 arg6 harg6) K := by
  iintro ⟨H0, H1, H2, H3, ⟨%ds, HS⟩, Hk⟩
  ihave HS := owns_open c arg6 ds $$ HS
  icases HS with ⟨%fs, HS⟩
  iapply ((foxRun c i arg2 harg2 arg3 harg3 arg4 harg4 arg5 harg5 arg6 harg6 x0 x1 x2 fs).2.2 E K)
  isplitl [H0]; · iexact H0
  isplitl [H1]; · iexact H1
  isplitl [H2]; · iexact H2
  isplitl [H3]; · iexact H3
  isplitl [HS]; · iexact HS
  iintro ⟨H0, H1, H2, ⟨%e3, H3⟩, ⟨%fT, HS⟩⟩
  iapply Hk
  isplitl [H0]; · iexact H0
  isplitl [H1]; · iexact H1
  isplitl [H2]; · iexact H2
  isplitl [H3]
  · unfold owns; iexists _; isplitr
    swap; · iexact H3
    ipureintro
    rw [foxRun_fst]
    exact View.read_writes_full arg5.view e3 _ _ _
  iexists _; unfold owns; iexists _; isplitr
  swap; · iexact HS
  ipureintro; rfl

/-- What the attention's output buffer holds after the body at point `t`. -/
def outsAt1 (c : Dev nD) (t : Fin cfg1.N) : Vec F S256x256 .bf16 :=
  foxOut ((grid1.coords t) 1).val (iblk1 V c 0 t) (iblk1 V c 1 t) (iblk1 V c 2 t)

/-- The attention's data: its arrays as found, its buffers after the body. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The attention body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  iintro ⟨⟨⟨HR0, HR1, HR2, HS0⟩, Hg⟩, Ho, ⟨%d0, H0⟩, ⟨%d1, H1⟩, ⟨%d2, H2⟩, ⟨%d3, H3⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [HS0]; · iexact HS0
  iintro ⟨H0, H1, H2, H3, HS0⟩
  isplitl [HR0 HR1 HR2 HS0 Hg]
  · isplitl [HR0 HR1 HR2 HS0]
    · isplitl [HR0]
      · iexact HR0
      isplitl [HR1]
      · iexact HR1
      isplitl [HR2]
      · iexact HR2
      iexact HS0
    iexact Hg
  isplitl [Ho]; · iexact Ho
  isplitl [H0]; · iexact H0
  isplitl [H1]; · iexact H1
  isplitl [H2]; · iexact H2
  iexact H3

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_cst, main_v0, main_v1, main_v2, main_v3, main_v4, main_v5, main_v6, main_v7, main_v8, main_v9, main_v10, main_v11, main_v12]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v14, main_v15, main_v16, main_cst_0, main_v17, main_cst_1, main_v18, main_v19, main_v20, main_v21, main_v22, main_v23, main_v24, main_v25, main_v26, main_v27, main_v28, main_v29, main_v30]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The contents after the prefix sum. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The contents after the attention. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

abbrev adm : (p : Fin 2) → (pcfgs (F := F) p).Adm := fun p => (cfgs p).toPCfg_adm
/-- Both pipelines' data. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its four segments. -/
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- THE RUN: every execution ends with the arguments as launched, the result at what the attention's write-backs leave, the counters at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v31) = (dat1 (V3 m ρ) c).arrAt 3 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_v31 (by decide))).trans (W4_arr m ρ c 3)⟩), funext fun g => hz g (.inr (no_unscoped g.2))⟩)

end Cert.Fox.KernelIdeal

end
-- ==== Proof.Rows.lean ====
/-
  One row of a softmax times the values: the kernel divides the sum of the weighted values by the sum of the weights,
  the reference sums the values times the divided weights. Sums and maxima by chunks, and the float constants.
-/
module

public import Idealize.ShloMosaic.PureOps.Ideal

@[expose] public section

noncomputable section

namespace Cert.Fox

open Idealize.ShloMosaic

/-! ## Constants -/

theorem ofBits_ninf : Ideal.ofBits .f32 0xFF800000#32 = ⊥ := by simp [Ideal.ofBits, Ideal.ieee]
theorem ofBits_eighth : Ideal.ofBits .f32 0x3E000000#32 = ((1 / 8 : ℝ) : EReal) := by
  simp [Ideal.ofBits, Ideal.ieee, -EReal.coe_mul]; norm_num
theorem ofBits_bone : Ideal.ofBits .bf16 0x3F80#16 = 1 := by
  simp [Ideal.ofBits, Ideal.ieee, -EReal.coe_mul]; norm_num
theorem ofBits_bzero : Ideal.ofBits .bf16 0x0000#16 = 0 := by simp [Ideal.ofBits, Ideal.ieee]
theorem ofBits_fzero : Ideal.ofBits .f32 0x00000000#32 = 0 := by simp [Ideal.ofBits, Ideal.ieee]
theorem ofBits_inf : Ideal.ofBits .f32 0x7F800000#32 = ⊤ := by simp [Ideal.ofBits, Ideal.ieee]

/-- The logarithm of one more than a positive real. -/
theorem log1p_coe {x : ℝ} (hx : 0 < x) : Ideal.log1p (x : EReal) = ((Real.log (1 + x) : ℝ) : EReal) := by
  unfold Ideal.log1p
  rw [← EReal.coe_one, ← EReal.coe_add, Ideal.log_coe, if_neg (by push Not; positivity)]

/-! ## Sums by chunks -/

/-- A sum over the first `B * n` numbers, chunk after chunk. -/
theorem sum_blocks {M : Type} [AddCommMonoid M] (B : ℕ) (E : ℕ → M) : ∀ n : ℕ, ∑ j ∈ Finset.range (B * n), E j = ∑ k ∈ Finset.range n, ∑ r ∈ Finset.range B, E (B * k + r)
  | 0 => by simp
  | n + 1 => by rw [Nat.mul_succ, Finset.sum_range_add, sum_blocks B E n, Finset.sum_range_succ]

/-- A chunk's sum, eight rows at a time. -/
theorem sum_fold (E : ℕ → EReal) : ∑ s : Fin 8, ∑ a : Fin 64, E (8 * a.val + s.val) = ∑ r ∈ Finset.range 512, E r := by
  rw [Finset.sum_comm, show (512 : ℕ) = 8 * 64 from rfl, sum_blocks 8 E 64, Finset.sum_range]
  exact Finset.sum_congr rfl fun a _ => (Finset.sum_range fun s => E (8 * a.val + s)).symm

/-- A finite nonnegative factor of a sum. -/
theorem sum_mul_coe {ι : Type} (s : Finset ι) (a : ι → EReal) {c : ℝ} (hc : 0 ≤ c) : (∑ j ∈ s, a j) * (c : EReal) = ∑ j ∈ s, a j * (c : EReal) := by
  classical
  induction s using Finset.induction_on with
  | empty => simp
  | insert x s hx ih =>
    rw [Finset.sum_insert hx, Finset.sum_insert hx, EReal.right_distrib_of_nonneg_of_ne_top (EReal.coe_nonneg.mpr hc) (EReal.coe_ne_top c), ih]

/-- A sum of reals. -/
theorem coe_sum {ι : Type} (s : Finset ι) (a : ι → ℝ) : ∑ j ∈ s, (a j : EReal) = ((∑ j ∈ s, a j : ℝ) : EReal) := by
  classical
  induction s using Finset.induction_on with
  | empty => simp
  | insert x s hx ih => rw [Finset.sum_insert hx, Finset.sum_insert hx, ih, EReal.coe_add]

/-! ## A row's weights -/

/-- The weight of a score no larger than the top one is a nonnegative real, positive where the score is real. -/
theorem exp_sub_coe {x : EReal} (hx : x ≠ ⊤) (μ : ℝ) : ∃ e : ℝ, 0 ≤ e ∧ (x ≠ ⊥ → 0 < e) ∧ Ideal.exp (x - (μ : EReal)) = (e : EReal) := by
  induction x using EReal.rec with
  | bot => exact ⟨0, le_refl _, fun h => absurd rfl h, by simp⟩
  | coe r => exact ⟨Real.exp (r - μ), (Real.exp_pos _).le, fun _ => Real.exp_pos _, by rw [← EReal.coe_sub, Ideal.exp_coe]⟩
  | top => exact absurd rfl hx

/-- The row: from the first `n` scores the kernel has what the reference has from all `N`, the others being minus infinity. -/
theorem row_quotient {N n : ℕ} (hn : n ≤ N) (f v : ℕ → EReal) (q : ℕ) (hq : q < n) (hfq : f q ≠ ⊥) (hlt : ∀ j, f j ≠ ⊤)
    (hbot : ∀ j, n ≤ j → f j = ⊥) (m M : EReal) (hm : ∀ b, m ≤ b ↔ ∀ j, j < n → f j ≤ b) (hM : ∀ b, M ≤ b ↔ ∀ j, j < N → f j ≤ b) :
    Ideal.div (∑ j ∈ Finset.range n, v j * Ideal.exp (f j - m)) (∑ j ∈ Finset.range n, Ideal.exp (f j - m))
      = ∑ j ∈ Finset.range N, v j * Ideal.div (Ideal.exp (f j - M)) (∑ j ∈ Finset.range N, Ideal.exp (f j - M)) := by
  have hmM : M = m := by
    refine eq_of_forall_ge_iff fun b => ?_
    rw [hm, hM]
    refine ⟨fun h j hj => h j (hj.trans_le hn), fun h j hj => ?_⟩
    by_cases hjn : j < n
    · exact h j hjn
    · rw [hbot j (not_lt.mp hjn)]; exact bot_le
  subst hmM
  have htop : M ≠ ⊤ := by
    have h1 : M ≤ (Finset.range n).sup f := (hm _).mpr fun j hj => Finset.le_sup (Finset.mem_range.mpr hj)
    have h2 : (Finset.range n).sup f < ⊤ := (Finset.sup_lt_iff bot_lt_top).mpr fun j _ => lt_top_iff_ne_top.mpr (hlt j)
    exact (lt_of_le_of_lt h1 h2).ne
  have hne : M ≠ ⊥ := fun h => hfq (le_bot_iff.mp (h ▸ (hm M).mp le_rfl q hq))
  obtain ⟨μ, rfl⟩ : ∃ μ : ℝ, M = (μ : EReal) := ⟨M.toReal, (EReal.coe_toReal htop hne).symm⟩
  choose e he0 hepos he using fun j => exp_sub_coe (hlt j) μ
  simp only [he]
  have hz : ∀ j, n ≤ j → e j = 0 := fun j hj => by
    have h := he j
    rw [hbot j hj] at h
    simpa using h.symm
  have hext : ∀ g : ℕ → EReal, (∀ j, n ≤ j → g j = 0) → ∑ j ∈ Finset.range N, g j = ∑ j ∈ Finset.range n, g j := fun g hg =>
    (Finset.sum_subset (Finset.range_mono hn) fun j _ hj => hg j (not_lt.mp fun h => hj (Finset.mem_range.mpr h))).symm
  rw [hext (fun j => (e j : EReal)) (fun j hj => by rw [hz j hj]; rfl)]
  rw [coe_sum]
  have hpos : 0 < ∑ j ∈ Finset.range n, e j :=
    Finset.sum_pos' (fun j _ => he0 j) ⟨q, Finset.mem_range.mpr hq, hepos q hfq⟩
  simp only [Ideal.div_coe hpos.ne']
  rw [hext (fun j => v j * ((e j : EReal) * ((1 / ∑ j ∈ Finset.range n, e j : ℝ) : EReal))) (fun j hj => by rw [hz j hj]; simp)]
  rw [sum_mul_coe _ _ (by positivity)]
  exact Finset.sum_congr rfl fun j _ => mul_assoc _ _ _

end Cert.Fox

end
-- ==== Proof.IdealPrefix.lean ====
/-
  The prefix sum of the gates' logarithms at exact arithmetic: twelve doubling steps sum all the places before.
-/
module

public import proofs.«01_k».proof.Proof.IdealLaunch
public import proofs.«01_k».proof.Proof.Rows
public import Idealize.ShloMosaic.Lib.Pointwise
public import Idealize.ShloMosaic.Lib.WordCmp

@[expose] public section

set_option maxRecDepth 16384

noncomputable section

namespace Cert.Fox.KernelIdeal

open Idealize.ShloMosaic Idealize.ShloMosaic.TcCoe Idealize.SL.Sem
open Cert.KernelIdeal Cert.KernelIdeal.Gen

section
variable {F : FTy → Type} [FloatOps F] [Named F]

/-- One doubling step: each place adds the place `n` before it. -/
def hs (n : BitVec 32) (x : FVec F S64x4096 .f32) : FVec F S64x4096 .f32 :=
  addf x (select (cmpi .sge (iota .tc S64x4096 32 [1] iota_S64x4096_d1_w32) (broadcast S64x4096 n)) (dynamicRotate 1 n none x rotates_S64x4096_d1)
    (broadcast S64x4096 (Scalar.ofBits .f32 0x00000000#32)))

/-- The rows' logarithms of the gates. -/
def lg (v0 : Vec F S64x4096 .f32) (v2 : Vec F S64x1 .f32) : FVec F S64x4096 .f32 :=
  subf (minimumf (addf (shapeCast S64x4096 v0 shapeCasts_S64x4096_S64x4096) (broadcastTo S64x4096 (shapeCast S64x1 v2 shapeCasts_S64x1_S64x1) broadcasts_S64x1_S64x4096))
      (broadcast S64x4096 (Scalar.ofBits .f32 0x00000000#32)))
    (log1p (exp (subf (broadcast S64x4096 (Scalar.ofBits .f32 0x00000000#32))
      (absf (addf (shapeCast S64x4096 v0 shapeCasts_S64x4096_S64x4096) (broadcastTo S64x4096 (shapeCast S64x1 v2 shapeCasts_S64x1_S64x1) broadcasts_S64x1_S64x4096))))))

theorem pay8_eq (v0 : Vec F S64x4096 .f32) (v2 : Vec F S64x1 .f32) : k0_pay8 v0 v2 = hs 8#32 (hs 4#32 (hs 2#32 (hs 1#32 (lg v0 v2)))) := rfl

theorem pay10_eq (x : FVec F S64x4096 .f32) :
    k0_pay10 (iota .tc S64x4096 32 [1] iota_S64x4096_d1_w32) x k0_pay9 = hs 512#32 (hs 256#32 (hs 128#32 (hs 64#32 (hs 32#32 (hs 16#32 x))))) := rfl

theorem pay1_eq (x : FVec F S64x4096 .f32) :
    k0_pay1 (iota .tc S64x4096 32 [1] iota_S64x4096_d1_w32) (k0_pay10 (iota .tc S64x4096 32 [1] iota_S64x4096_d1_w32) x k0_pay9)
      (k0_pay11 (iota .tc S64x4096 32 [1] iota_S64x4096_d1_w32) x k0_pay9) = hs 2048#32 (hs 1024#32 (k0_pay10 (iota .tc S64x4096 32 [1] iota_S64x4096_d1_w32) x k0_pay9)) := rfl
end

theorem pre_eq {F : FTy → Type} [FloatOps F] [Named F] (v0 : Vec F S64x4096 .f32) (v2 : Vec F S64x1 .f32) :
    k0_pay1 (F := F) (k0_pay12 v0 v2) (k0_pay15 v0 v2) (k0_pay16 v0 v2)
      = hs 2048#32 (hs 1024#32 (hs 512#32 (hs 256#32 (hs 128#32 (hs 64#32 (hs 32#32 (hs 16#32 (hs 8#32 (hs 4#32 (hs 2#32 (hs 1#32 (lg v0 v2)))))))))))) := by
  unfold k0_pay15 k0_pay16 k0_pay12 k0_pay13 k0_pay14
  rw [pay1_eq, pay10_eq, pay8_eq, show View.ld v0 r0_0 = v0 from View.ld_unit_zero (by decide) _ _, show View.ld v2 r0_1 = v2 from View.ld_unit_zero (by decide) _ _]

theorem hs_apply (n : ℕ) (hn : n ≤ 2048) (x : FVec Ideal S64x4096 .f32) (r : Fin 64) (s : Fin 4096) :
    hs (BitVec.ofNat 32 n) x (ix2 r s) = x (ix2 r s) + if h : n ≤ s.val then x (ix2 r ⟨s.val - n, by omega⟩) else 0 := by
  pointwise [hs]
  refine congrArg (x (ix2 r s) + ·) ?_
  have hs4 := s.isLt
  rw [WordCmp.cmpi_sge_ofNat (by omega) (by omega)]
  by_cases h : n ≤ s.val
  · rw [dif_pos h]
    simp only [h, decide_true]
    refine congrArg (fun z => x (ix2 r z)) (Fin.ext ?_)
    show (s.val + 4096 - (BitVec.ofNat 32 n).toNat % 4096) % 4096 = s.val - n
    rw [BitVec.toNat_ofNat]; omega
  · rw [dif_neg h]
    simp only [h, decide_false]
    rfl

theorem lg_apply (v0 : Vec Ideal S64x4096 .f32) (v2 : Vec Ideal S64x1 .f32) (r : Fin 64) (s : Fin 4096) {z : ℝ} (hz : v0 (ix2 r s) + v2 (ix2 r 0) = (z : EReal)) :
    lg v0 v2 (ix2 r s) = ((min z 0 - Real.log (1 + Real.exp (-|z|)) : ℝ) : EReal) := by
  pointwise [lg]
  rw [hz]
  have h1 : FloatOps.absf (F := Ideal) (φ := .f32) (z : EReal) = ((|z| : ℝ) : EReal) := by
    show max (z : EReal) (-(z : EReal)) = _
    rw [← EReal.coe_neg, abs_eq_max_neg]; exact (EReal.coe_strictMono.monotone.map_max).symm
  rw [h1]
  rw [zero_sub, ← EReal.coe_neg, Ideal.exp_coe]
  rw [show min (z : EReal) 0 = ((min z 0 : ℝ) : EReal) from (EReal.coe_strictMono.monotone.map_min (a := z) (b := 0)).symm]
  rw [log1p_coe (Real.exp_pos _), ← EReal.coe_sub]

/-- The last `n` of the logarithms up to `s`. -/
def win (L : ℕ → EReal) (n s : ℕ) : EReal := ∑ j ∈ Finset.range n, if j ≤ s then L (s - j) else 0

theorem win_double (L : ℕ → EReal) (n s : ℕ) : win L (2 * n) s = win L n s + if n ≤ s then win L n (s - n) else 0 := by
  unfold win
  rw [Nat.two_mul, Finset.sum_range_add]
  refine congrArg (_ + ·) ?_
  by_cases h : n ≤ s
  · rw [if_pos h]
    refine Finset.sum_congr rfl fun j _ => ?_
    by_cases hj : j ≤ s - n
    · rw [if_pos hj, if_pos (by omega), Nat.sub_sub]
    · rw [if_neg hj, if_neg (by omega)]
  · rw [if_neg h]
    exact Finset.sum_eq_zero fun j _ => if_neg (by omega)

theorem win_all (L : ℕ → EReal) {n s : ℕ} (h : s < n) : win L n s = ∑ j ∈ Finset.range (s + 1), L j := by
  unfold win
  rw [← Finset.sum_range_reflect L (s + 1)]
  refine ((Finset.sum_subset (Finset.range_mono h) fun j _ hj => if_neg fun h => hj (Finset.mem_range.mpr (by omega))).symm).trans ?_
  exact Finset.sum_congr rfl fun j hj => by
    have := Finset.mem_range.mp hj
    rw [if_pos (by omega)]; exact congrArg L (by omega)

/-- A step doubles the window. -/
theorem hs_win (n : ℕ) (hn : n ≤ 2048) (x : FVec Ideal S64x4096 .f32) (r : Fin 64) (L : ℕ → EReal) (hx : ∀ s : Fin 4096, x (ix2 r s) = win L n s.val) (s : Fin 4096) :
    hs (BitVec.ofNat 32 n) x (ix2 r s) = win L (2 * n) s.val := by
  rw [hs_apply n hn, win_double, hx]
  refine congrArg (_ + ·) ?_
  by_cases h : n ≤ s.val
  · rw [dif_pos h, if_pos h]; exact hx _
  · rw [dif_neg h, if_neg h]

/-- The running sums of the rows' logarithms. -/
theorem pre_apply (v0 : Vec Ideal S64x4096 .f32) (v2 : Vec Ideal S64x1 .f32) (r : Fin 64) (L : ℕ → EReal) (hL : ∀ s : Fin 4096, lg v0 v2 (ix2 r s) = L s.val) (s : Fin 4096) :
    k0_pay1 (F := Ideal) (k0_pay12 v0 v2) (k0_pay15 v0 v2) (k0_pay16 v0 v2) (ix2 r s) = ∑ j ∈ Finset.range (s.val + 1), L j := by
  rw [pre_eq, ← win_all L s.isLt]
  refine hs_win 2048 (by omega) _ r L (fun s => ?_) s
  refine hs_win 1024 (by omega) _ r L (fun s => ?_) s
  refine hs_win 512 (by omega) _ r L (fun s => ?_) s
  refine hs_win 256 (by omega) _ r L (fun s => ?_) s
  refine hs_win 128 (by omega) _ r L (fun s => ?_) s
  refine hs_win 64 (by omega) _ r L (fun s => ?_) s
  refine hs_win 32 (by omega) _ r L (fun s => ?_) s
  refine hs_win 16 (by omega) _ r L (fun s => ?_) s
  refine hs_win 8 (by omega) _ r L (fun s => ?_) s
  refine hs_win 4 (by omega) _ r L (fun s => ?_) s
  refine hs_win 2 (by omega) _ r L (fun s => ?_) s
  refine hs_win 1 (by omega) _ r L (fun s => ?_) s
  rw [hL]
  simp [win]

end Cert.Fox.KernelIdeal
end
-- ==== Proof.IdealPlanes.lean ====
/-
  The prefix sum's output array at exact arithmetic: its first plane holds the running sums of the gates' logarithms, the
  two planes of what rounding would leave hold zero.
-/
module

public import proofs.«01_k».proof.Proof.IdealPrefix
public import Idealize.ShloMosaic.Lib.Pipeline.ValueKit

@[expose] public section

set_option maxRecDepth 16384

noncomputable section

namespace Cert.Fox.KernelIdeal

open Idealize.ShloMosaic Idealize.ShloMosaic.TcCoe Idealize.SL.Sem
open Cert.KernelIdeal Cert.KernelIdeal.Gen

section
variable (a : IVec S64x4096 32) (y z : FVec Ideal S64x4096 .f32) (r : Fin 64) (s : Fin 4096)
theorem pay5_at : k0_pay5 (F := Ideal) a y z (ix3 0 r s) = k0_pay1 (F := Ideal) a y z (ix2 r s) := by
  pointwise [k0_pay5, k0_pay2]
theorem pay6_at : k0_pay6 (F := Ideal) a y z (ix3 0 r s) = k0_pay1 (F := Ideal) a y z (ix2 r s) - k0_pay1 (F := Ideal) a y z (ix2 r s) := by
  pointwise [k0_pay6, k0_pay4, k0_pay3, k0_pay2]
theorem pay7_at : k0_pay7 (F := Ideal) a y z (ix3 0 r s) = k0_pay1 (F := Ideal) a y z (ix2 r s) - k0_pay1 (F := Ideal) a y z (ix2 r s) - (k0_pay1 (F := Ideal) a y z (ix2 r s) - k0_pay1 (F := Ideal) a y z (ix2 r s)) := by
  pointwise [k0_pay7, k0_pay4, k0_pay3, k0_pay2]
end

/-- The planes. -/
theorem out0_apply (v0 : Vec Ideal S64x4096 .f32) (v2 : Vec Ideal S64x1 .f32) (r : Fin 64) (l : ℕ → ℝ) (hl : ∀ s, lg v0 v2 (ix2 r s) = (l s.val : EReal)) (p : Fin 3) (s : Fin 4096) :
    out0_2 (F := Ideal) v0 v2 (ix3 p r s) = if p = 0 then ((∑ j ∈ Finset.range (s.val + 1), l j : ℝ) : EReal) else 0 := by
  have hC := pre_apply v0 v2 r (fun j => (l j : EReal)) hl s
  rw [coe_sum] at hC
  unfold out0_2
  generalize k0_pay15 (F := Ideal) v0 v2 = y at hC ⊢
  generalize k0_pay16 (F := Ideal) v0 v2 = z at hC ⊢
  generalize k0_pay12 (F := Ideal) v0 v2 = a at hC ⊢
  canon_tiles x g
  all_goals
    have hx : x = ix3 0 r s := funext fun a => Fin.ext (match a with
      | ⟨0, _⟩ => by show (x 0).val = 0; omega
      | ⟨1, _⟩ => g1.symm
      | ⟨2, _⟩ => g2.symm)
    rw [hx]
    replace g0 : p.val = _ := g0
  · rw [pay7_at, hC, if_neg (fun h => by rw [h] at g0; simp at g0), ← EReal.coe_sub, sub_self]; simp
  · rw [pay6_at, hC, if_neg (fun h => by rw [h] at g0; simp at g0), ← EReal.coe_sub, sub_self]; rfl
  · rw [pay5_at, hC, if_pos (Fin.ext (by show p.val = 0; omega))]

theorem idx0 : ∀ t : Fin cfg0.N, win0_0.index t = ![0, 0] ∧ win0_1.index t = ![0, 0] ∧ win0_2.index t = ![0, 0, 0] :=
  (by decide +kernel : ∀ t : Fin grid0.N, _)

section
variable (V : (c : Dev nD) → (b : Ref sig .tc) → Buf (Elt Ideal) ((c : Thread nD τ).loc b)) (c : Dev nD)

theorem iblk0_0 (t : Fin cfg0.N) : iblk0 V c 0 t = V c main_v8 := by
  blk_ext! [iblk0, idx0 t]
theorem iblk0_1 (t : Fin cfg0.N) : iblk0 V c 1 t = V c main_v12 := by
  blk_ext! [iblk0, idx0 t]

/-- The prefix sum's output array. -/
theorem final0 : (dat0 V c).arrAt 2 cfg0.N = out0_2 (V c main_v8) (V c main_v12) := by
  refine (dat0 V c).arrAt_eq_of_after_last 2 t0_0 (by decide +kernel) _ fun j => ?_
  blk_simp
  rw [after0_2, iblk0_0, iblk0_1]
end

end Cert.Fox.KernelIdeal

end
-- ==== Proof.IdealHost.lean ====
/-
  What the host operations of the kernel's program compute, as terms of its arguments and of the prefix sum's output.
-/
module

public import proofs.«01_k».proof.Proof.IdealLaunch
public import proofs.«01_k».proof.Proof.Rows
public import Idealize.ShloMosaic.Lib.Pointwise

@[expose] public section

set_option maxRecDepth 16384

noncomputable section

namespace Cert.Fox.KernelIdeal

open Idealize.ShloMosaic Idealize.ShloMosaic.TcCoe Idealize.SL.Sem Idealize.ShloMosaic.StableHlo
open Cert.KernelIdeal Cert.KernelIdeal.Gen

section
variable {F : FTy → Type} [FloatOps F] [Named F]

/-- Queries, keys and values side by side. -/
def obT (q k v : FVec F S16x4096x256 .f32) : FVec F S65536x768 .bf16 :=
  truncf .bf16 (concatenate S65536x768 1 [⟨S65536x256, shapeCast S65536x256 (mulf q (broadcastInDim S16x4096x256 ![] bcast_S_S16x4096x256 (constant S_ .f32 0x3E000000#32))) shapeCasts_S16x4096x256_S65536x256⟩,
    ⟨S65536x256, shapeCast S65536x256 k shapeCasts_S16x4096x256_S65536x256⟩, ⟨S65536x256, shapeCast S65536x256 v shapeCasts_S16x4096x256_S65536x256⟩] concatenates_S65536x256_S65536x256_S65536x256_S65536x768_d1) bitsLt_bf16_f32
/-- The gates, a row for each batch entry and head. -/
def fT (f : FVec F S16x4096x4 .f32) : FVec F S64x4096 .f32 :=
  shapeCast S64x4096 (transpose S16x4x4096 [0, 2, 1] f transposes_S16x4096x4_S16x4x4096_0_2_1) shapeCasts_S16x4x4096_S64x4096
/-- The gates' biases, one for each row. -/
def gT (g : FVec F S4 .f32) : FVec F S64x1 .f32 :=
  shapeCast S64x1 (shapeCast S64 (broadcastInDim S16x4 ![0, 1] bcast_S1x4_S16x4_0_1 (shapeCast S1x4 g shapeCasts_S4_S1x4)) shapeCasts_S16x4_S64) shapeCasts_S64_S64x1
/-- The planes of the running sums, three channels for each row and head. -/
def plT (p : FVec F S3x64x4096 .bf16) : FVec F S65536x4x3 .bf16 :=
  shapeCast S65536x4x3 (transpose S16x4096x4x3 [1, 3, 2, 0] (shapeCast S3x16x4x4096 p shapeCasts_S3x64x4096_S3x16x4x4096) transposes_S3x16x4x4096_S16x4096x4x3_1_3_2_0) shapeCasts_S16x4096x4x3_S65536x4x3
/-- The queries with the running sums beside them. -/
def qT (o : FVec F S65536x768 .bf16) (p : FVec F S3x64x4096 .bf16) : FVec F S65536x512 .bf16 :=
  shapeCast S65536x512 (concatenate S65536x4x128 2 [⟨S65536x4x64, shapeCast S65536x4x64 (extractStridedSlice S65536x256 ![0, 0] o slices_S65536x768_S65536x256_0_0) shapeCasts_S65536x256_S65536x4x64⟩,
    ⟨S65536x4x3, plT p⟩, ⟨S65536x4x3, broadcastInDim S65536x4x3 ![] bcast_S_S65536x4x3 (constant S_ .bf16 0x3F80#16)⟩, ⟨S65536x4x58, broadcastInDim S65536x4x58 ![] bcast_S_S65536x4x58 (constant S_ .bf16 0x0000#16)⟩]
    concatenates_S65536x4x64_S65536x4x3_S65536x4x3_S65536x4x58_S65536x4x128_d2) shapeCasts_S65536x4x128_S65536x512
/-- The keys with the negated running sums beside them. -/
def kT (o : FVec F S65536x768 .bf16) (p : FVec F S3x64x4096 .bf16) : FVec F S65536x512 .bf16 :=
  shapeCast S65536x512 (concatenate S65536x4x128 2 [⟨S65536x4x64, shapeCast S65536x4x64 (extractStridedSlice S65536x256 ![0, 256] o slices_S65536x768_S65536x256_0_256) shapeCasts_S65536x256_S65536x4x64⟩,
    ⟨S65536x4x3, broadcastInDim S65536x4x3 ![] bcast_S_S65536x4x3 (constant S_ .bf16 0x3F80#16)⟩, ⟨S65536x4x3, Host.negf (plT p)⟩, ⟨S65536x4x58, broadcastInDim S65536x4x58 ![] bcast_S_S65536x4x58 (constant S_ .bf16 0x0000#16)⟩]
    concatenates_S65536x4x64_S65536x4x3_S65536x4x3_S65536x4x58_S65536x4x128_d2) shapeCasts_S65536x4x128_S65536x512
/-- The values, by chunks, transposed. -/
def vT (o : FVec F S65536x768 .bf16) : FVec F S16x8x256x512 .bf16 :=
  transpose S16x8x256x512 [0, 1, 3, 2] (shapeCast S16x8x512x256 (extractStridedSlice S65536x256 ![0, 512] o slices_S65536x768_S65536x256_0_512) shapeCasts_S65536x256_S16x8x512x256) transposes_S16x8x512x256_S16x8x256x512_0_1_3_2

variable (m : (ℓ : Loc nD τ sig) → Buf (Elt F) ℓ) (ρ : Dev nD → PrngReg) (c : Dev nD)

theorem W1_v6 : W1 m ρ c (Proc.devRef .tc main_v6) = obT (m ((c : Thread nD τ).loc main_arg0)) (m ((c : Thread nD τ).loc main_arg1)) (m ((c : Thread nD τ).loc main_arg2)) := by
  unfold obT
  after_results_simp <;> rfl
theorem W1_v8 : W1 m ρ c (Proc.devRef .tc main_v8) = fT (m ((c : Thread nD τ).loc main_arg3)) := by
  unfold fT
  after_results_simp <;> rfl
theorem W1_v12 : W1 m ρ c (Proc.devRef .tc main_v12) = gT (m ((c : Thread nD τ).loc main_arg4)) := by
  unfold gT
  after_results_simp <;> rfl

theorem W3_v24 : W3 m ρ c (Proc.devRef .tc main_v24) = qT (W2 m ρ c (Proc.devRef .tc main_v6)) (W2 m ρ c (Proc.devRef .tc main_v13)) := by
  unfold qT plT
  after_results_simp <;> rfl
theorem W3_v27 : W3 m ρ c (Proc.devRef .tc main_v27) = kT (W2 m ρ c (Proc.devRef .tc main_v6)) (W2 m ρ c (Proc.devRef .tc main_v13)) := by
  unfold kT plT
  after_results_simp <;> rfl
theorem W3_v30 : W3 m ρ c (Proc.devRef .tc main_v30) = vT (W2 m ρ c (Proc.devRef .tc main_v6)) := by
  unfold vT
  after_results_simp <;> rfl
end

theorem obT_q (q k v : FVec Ideal S16x4096x256 .f32) (b : Fin 16) (i : Fin 4096) (e : Fin 256) :
    obT q k v (ix2 (⟨4096 * b.val + i.val, by omega⟩ : Fin 65536) (⟨e.val, by omega⟩ : Fin 768)) = q (ix3 b i e) * ((1 / 8 : ℝ) : EReal) := by
  pointwise [obT]
  rw [ofBits_eighth]
theorem obT_k (q k v : FVec Ideal S16x4096x256 .f32) (b : Fin 16) (i : Fin 4096) (e : Fin 256) :
    obT q k v (ix2 (⟨4096 * b.val + i.val, by omega⟩ : Fin 65536) (⟨256 + e.val, by omega⟩ : Fin 768)) = k (ix3 b i e) := by
  pointwise [obT]
theorem obT_v (q k v : FVec Ideal S16x4096x256 .f32) (b : Fin 16) (i : Fin 4096) (e : Fin 256) :
    obT q k v (ix2 (⟨4096 * b.val + i.val, by omega⟩ : Fin 65536) (⟨512 + e.val, by omega⟩ : Fin 768)) = v (ix3 b i e) := by
  pointwise [obT]
  rw [dif_neg (by omega), dif_neg (by omega)]
  exact congrArg (fun j => v (ix3 b i j)) (Fin.ext (by show 512 + e.val - 256 - 256 = e.val; omega))
theorem fT_apply (f : FVec Ideal S16x4096x4 .f32) (b : Fin 16) (h : Fin 4) (s : Fin 4096) : fT f (ix2 (⟨4 * b.val + h.val, by omega⟩ : Fin 64) s) = f (ix3 b s h) := by
  pointwise [fT]
theorem gT_apply (g : FVec Ideal S4 .f32) (b : Fin 16) (h : Fin 4) : gT g (ix2 (⟨4 * b.val + h.val, by omega⟩ : Fin 64) 0) = g (ix1 h) := by
  pointwise [gT]
theorem qT_apply (o : FVec Ideal S65536x768 .bf16) (p : FVec Ideal S3x64x4096 .bf16) (b : Fin 16) (i : Fin 4096) (h : Fin 4) (e : Fin 128) :
    qT o p (ix2 (⟨4096 * b.val + i.val, by omega⟩ : Fin 65536) (⟨128 * h.val + e.val, by omega⟩ : Fin 512)) =
      if he : e.val < 64 then o (ix2 (⟨4096 * b.val + i.val, by omega⟩ : Fin 65536) (⟨64 * h.val + e.val, by omega⟩ : Fin 768))
      else if hp : e.val < 67 then p (ix3 (⟨e.val - 64, by omega⟩ : Fin 3) (⟨4 * b.val + h.val, by omega⟩ : Fin 64) i)
      else if e.val < 70 then 1 else 0 := by
  pointwise [qT, plT]
  simp only [Nat.mul_comm 64, Nat.mul_comm 4 b.val]
  by_cases h1 : e.val < 64
  · rw [dif_pos h1, dif_pos h1]
  rw [dif_neg h1, dif_neg h1]
  by_cases h2 : e.val < 67
  · rw [dif_pos h2, dif_pos (show e.val - 64 < 3 by omega)]
  rw [dif_neg h2, dif_neg (show ¬e.val - 64 < 3 by omega)]
  by_cases h3 : e.val < 70
  · rw [if_pos h3, dif_pos (show e.val - 64 - 3 < 3 by omega)]
  · rw [if_neg h3, dif_neg (show ¬e.val - 64 - 3 < 3 by omega)]
theorem kT_apply (o : FVec Ideal S65536x768 .bf16) (p : FVec Ideal S3x64x4096 .bf16) (b : Fin 16) (i : Fin 4096) (h : Fin 4) (e : Fin 128) :
    kT o p (ix2 (⟨4096 * b.val + i.val, by omega⟩ : Fin 65536) (⟨128 * h.val + e.val, by omega⟩ : Fin 512)) =
      if he : e.val < 64 then o (ix2 (⟨4096 * b.val + i.val, by omega⟩ : Fin 65536) (⟨256 + (64 * h.val + e.val), by omega⟩ : Fin 768))
      else if e.val < 67 then 1
      else if hp : e.val < 70 then -p (ix3 (⟨e.val - 67, by omega⟩ : Fin 3) (⟨4 * b.val + h.val, by omega⟩ : Fin 64) i) else 0 := by
  pointwise [kT, plT]
  simp only [Nat.mul_comm 64, Nat.mul_comm 4 b.val]
  by_cases h1 : e.val < 64
  · rw [dif_pos h1, dif_pos h1]
  rw [dif_neg h1, dif_neg h1]
  by_cases h2 : e.val < 67
  · rw [if_pos h2, dif_pos (show e.val - 64 < 3 by omega)]
  rw [if_neg h2, dif_neg (show ¬e.val - 64 < 3 by omega)]
  by_cases h3 : e.val < 70
  · rw [dif_pos h3, dif_pos (show e.val - 64 - 3 < 3 by omega)]
    exact congrArg (fun j => -p (ix3 j _ i)) (Fin.ext (by show e.val - 64 - 3 = e.val - 67; omega))
  · rw [dif_neg h3, dif_neg (show ¬e.val - 64 - 3 < 3 by omega)]
theorem vT_apply (o : FVec Ideal S65536x768 .bf16) (b : Fin 16) (k : Fin 8) (e : Fin 256) (j : Fin 512) :
    vT o (ix4 b k e j) = o (ix2 (⟨4096 * b.val + (512 * k.val + j.val), by omega⟩ : Fin 65536) (⟨512 + e.val, by omega⟩ : Fin 768)) := by
  pointwise [vT]
  exact congrArg (fun j => o (ix2 j _)) (Fin.ext (by show b.val * 4096 + k.val * 512 + j.val = 4096 * b.val + (512 * k.val + j.val); omega))

end Cert.Fox.KernelIdeal

end
-- ==== Proof.IdealPays.lean ====
/-
  The forgetting attention's payloads at exact arithmetic, entry by entry.
-/
module

public import proofs.«01_k».proof.Proof.IdealClosed
public import proofs.«01_k».proof.Proof.Rows
public import Idealize.ShloMosaic.Lib.Pointwise
public import Idealize.ShloMosaic.Lib.WordCmp

@[expose] public section

set_option maxRecDepth 16384

noncomputable section

namespace Cert.Fox.KernelIdeal

open Idealize.ShloMosaic Idealize.ShloMosaic.TcCoe Idealize.SL.Sem
open Cert.KernelIdeal Cert.KernelIdeal.Gen

theorem pay2_apply (K : Vec Ideal S512x128 .bf16) (Q : Vec Ideal S256x128 .bf16) (a : Fin 512) (x : Fin 256) :
    k1_pay2 K Q (ix2 a x) = ∑ e : Fin 128, K (ix2 a e) * Q (ix2 x e) := by
  pointwise [k1_pay2]

theorem pay3_apply (K : Vec Ideal S512x128 .bf16) (Q : Vec Ideal S256x128 .bf16) (a : Fin 512) (x : Fin 256) :
    k1_pay3 K Q (ix2 a x) = ∑ e : Fin 128, K (ix2 a e) * Q (ix2 x e) := by
  pointwise [k1_pay3]
  exact pay2_apply K Q a x

/-- A maximum over sixty-four places, seeded with minus infinity, is below a bound when all of them are. -/
theorem fold_le {n : ℕ} (f : Fin n → EReal) (b : EReal) : Finset.univ.fold max (Ideal.ofBits .f32 0xFF800000#32) f ≤ b ↔ ∀ a, f a ≤ b := by
  rw [ofBits_ninf, Finset.fold_max_le]
  simp

theorem pay4_le (m : Vec Ideal S8x256 .f32) (K : Vec Ideal S512x128 .bf16) (Q : Vec Ideal S256x128 .bf16) (s : Fin 8) (x : Fin 256) (b : EReal) :
    k1_pay4 m K Q (ix2 s x) ≤ b ↔ m (ix2 s x) ≤ b ∧ ∀ a : Fin 64, k1_pay2 K Q (ix2 (⟨a.val * 8 + s.val, by omega⟩ : Fin 512) x) ≤ b := by
  pointwise [k1_pay4]
  rw [max_le_iff]
  exact and_congr_right fun _ => fold_le _ b

theorem cblk_apply (t : ℕ) (ht : t < 16) (K : Vec Ideal S512x128 .bf16) (Q : Vec Ideal S256x128 .bf16) (a : Fin 512) (x : Fin 256) :
    cblk t K Q (ix2 a x) = if 512 * (t / 2) + a.val ≤ 256 * t + x.val then k1_pay2 K Q (ix2 a x) else ⊥ := by
  pointwise [cblk, k1_pay57, k1_pay56, k1_pay2]
  have h1 : IntOp.addi (Scalar.muli (BitVec.ofNat 32 (t / 2)) 512#32) (BitVec.ofNat 32 a.val) = BitVec.ofNat 32 (512 * (t / 2) + a.val) := by
    apply BitVec.eq_of_toNat_eq
    simp only [IntOp.addi, Scalar.muli, IntOp.muli, BitVec.toNat_add, BitVec.toNat_mul, BitVec.toNat_ofNat]
    omega
  have h2 : IntOp.addi (Scalar.muli (BitVec.ofNat 32 t) 256#32) (BitVec.ofNat 32 x.val) = BitVec.ofNat 32 (256 * t + x.val) := by
    apply BitVec.eq_of_toNat_eq
    simp only [IntOp.addi, Scalar.muli, IntOp.muli, BitVec.toNat_add, BitVec.toNat_mul, BitVec.toNat_ofNat]
    omega
  rw [h1, h2, WordCmp.cmpi_sle_ofNat (by omega) (by omega)]
  by_cases h : 512 * (t / 2) + a.val ≤ 256 * t + x.val
  · rw [if_pos h, decide_eq_true h]; rfl
  · rw [if_neg h, decide_eq_false h]; rfl

theorem pay58_le (v1 v2 : BitVec 32) (m : Vec Ideal S8x256 .f32) (K : Vec Ideal S512x128 .bf16) (Q : Vec Ideal S256x128 .bf16) (i0 i1 : IVec S512x256 32) (s : Fin 8) (x : Fin 256) (b : EReal) :
    k1_pay58 v1 i0 i1 m v2 K Q (ix2 s x) ≤ b ↔ m (ix2 s x) ≤ b ∧ ∀ a : Fin 64, k1_pay57 v1 i0 i1 v2 K Q (ix2 (⟨a.val * 8 + s.val, by omega⟩ : Fin 512) x) ≤ b := by
  pointwise [k1_pay58, k1_pay57]
  rw [max_le_iff]
  exact and_congr_right fun _ => fold_le _ b

theorem pay64_le (m : Vec Ideal S8x256 .f32) (x : Fin 256) (b : EReal) :
    k1_pay64 (F := Ideal) m (ix2 0 x) ≤ b ↔ ∀ s : Fin 8, m (ix2 s x) ≤ b := by
  pointwise [k1_pay64]
  exact fold_le _ b

theorem pay20_apply (m : Vec Ideal S1x256 .f32) (l : Vec Ideal S8x256 .f32) (S : Vec Ideal S512x256 .f32) (s : Fin 8) (x : Fin 256) :
    k1_pay20 m l S (ix2 s x) = l (ix2 s x) + ∑ a : Fin 64, Ideal.exp (S (ix2 (⟨a.val * 8 + s.val, by omega⟩ : Fin 512) x) - m (ix2 0 x)) := by
  pointwise [k1_pay20, k1_pay19]

theorem pay21_apply (m : Vec Ideal S1x256 .f32) (acc : Vec Ideal S64x256 .f32) (V : Vec Ideal S1x1x256x512 .bf16) (S : Vec Ideal S512x256 .f32) (d : Fin 64) (x : Fin 256) :
    k1_pay21 m acc V S (ix2 d x) = acc (ix2 d x) + ∑ a : Fin 512, V (ix4 0 0 (⟨0 + d.val, by omega⟩ : Fin 256) a) * Ideal.exp (S (ix2 a x) - m (ix2 0 x)) := by
  pointwise [k1_pay21, k1_pay19, k1_pay18]

theorem pay24_apply (m : Vec Ideal S1x256 .f32) (acc : Vec Ideal S64x256 .f32) (V : Vec Ideal S1x1x256x512 .bf16) (S : Vec Ideal S512x256 .f32) (d : Fin 64) (x : Fin 256) :
    k1_pay24 m acc V S (ix2 d x) = acc (ix2 d x) + ∑ a : Fin 512, V (ix4 0 0 (⟨64 + d.val, by omega⟩ : Fin 256) a) * Ideal.exp (S (ix2 a x) - m (ix2 0 x)) := by
  pointwise [k1_pay24, k1_pay22, k1_pay18]

theorem pay27_apply (m : Vec Ideal S1x256 .f32) (acc : Vec Ideal S64x256 .f32) (V : Vec Ideal S1x1x256x512 .bf16) (S : Vec Ideal S512x256 .f32) (d : Fin 64) (x : Fin 256) :
    k1_pay27 m acc V S (ix2 d x) = acc (ix2 d x) + ∑ a : Fin 512, V (ix4 0 0 (⟨128 + d.val, by omega⟩ : Fin 256) a) * Ideal.exp (S (ix2 a x) - m (ix2 0 x)) := by
  pointwise [k1_pay27, k1_pay25, k1_pay18]

theorem pay78_apply (m : Vec Ideal S1x256 .f32) (acc : Vec Ideal S64x256 .f32) (V : Vec Ideal S1x1x256x512 .bf16) (S : Vec Ideal S512x256 .f32) (d : Fin 64) (x : Fin 256) :
    k1_pay78 acc (k1_pay18 V) (k1_pay28 m S) (ix2 d x) = acc (ix2 d x) + ∑ a : Fin 512, V (ix4 0 0 (⟨192 + d.val, by omega⟩ : Fin 256) a) * Ideal.exp (S (ix2 a x) - m (ix2 0 x)) := by
  pointwise [k1_pay78, k1_pay76, k1_pay28, k1_pay18]

theorem pay82_apply (l : Vec Ideal S8x256 .f32) (acc : Vec Ideal S64x256 .f32) (d : Fin 64) (x : Fin 256) :
    k1_pay82 (F := Ideal) l acc (ix2 d x) = Ideal.div (acc (ix2 d x)) (∑ s : Fin 8, l (ix2 s x)) := by
  pointwise [k1_pay82]

theorem pay83_apply (l : Vec Ideal S8x256 .f32) (acc : Vec Ideal S64x256 .f32) (d : Fin 64) (x : Fin 256) :
    k1_pay83 (F := Ideal) l acc (ix2 d x) = Ideal.div (acc (ix2 d x)) (∑ s : Fin 8, l (ix2 s x)) := by
  pointwise [k1_pay83]

theorem pay84_apply (l : Vec Ideal S8x256 .f32) (acc : Vec Ideal S64x256 .f32) (d : Fin 64) (x : Fin 256) :
    k1_pay84 (F := Ideal) l acc (ix2 d x) = Ideal.div (acc (ix2 d x)) (∑ s : Fin 8, l (ix2 s x)) := by
  pointwise [k1_pay84]

theorem pay85_apply (l : Vec Ideal S8x256 .f32) (x : Fin 256) : k1_pay85 (F := Ideal) l (ix1 x) = ∑ s : Fin 8, l (ix2 s x) := by
  pointwise [k1_pay85]

section
variable (a3 o0 o1 o2 : Vec Ideal S64x256 .f32) (l3 : Vec Ideal S256 .f32) (x : Fin 256) (d : Fin 64)

theorem pay1_apply0 : k1_pay1 (F := Ideal) a3 o0 o1 o2 l3 (ix2 x (⟨0 + d.val, by omega⟩ : Fin 256)) = o0 (ix2 d x) := by
  pointwise [k1_pay1]

theorem pay1_apply1 : k1_pay1 (F := Ideal) a3 o0 o1 o2 l3 (ix2 x (⟨64 + d.val, by omega⟩ : Fin 256)) = o1 (ix2 d x) := by
  pointwise [k1_pay1]

theorem pay1_apply2 : k1_pay1 (F := Ideal) a3 o0 o1 o2 l3 (ix2 x (⟨128 + d.val, by omega⟩ : Fin 256)) = o2 (ix2 d x) := by
  pointwise [k1_pay1]
  rw [dif_neg (by omega), dif_neg (by omega), dif_pos (by omega)]
  exact congrArg (fun j => o2 (ix2 j x)) (Fin.ext (by show 128 + d.val - 64 - 64 = d.val; omega))

theorem pay1_apply3 : k1_pay1 (F := Ideal) a3 o0 o1 o2 l3 (ix2 x (⟨192 + d.val, by omega⟩ : Fin 256)) = Ideal.div (a3 (ix2 d x)) (l3 (ix1 x)) := by
  pointwise [k1_pay1]
  rw [dif_neg (by omega), dif_neg (by omega), dif_neg (by omega)]
  exact congrArg (fun j => Ideal.div (a3 (ix2 j x)) (l3 (ix1 x))) (Fin.ext (by show 192 + d.val - 64 - 64 - 64 = d.val; omega))

end

end Cert.Fox.KernelIdeal

end
-- ==== Proof.IdealRow.lean ====
/-
  The forgetting attention's output block at exact arithmetic, row by row: the rows' maxima, the sums of the weights and
  of the weighted values over all the keys of the chunks that count.
-/
module

public import proofs.«01_k».proof.Proof.IdealPays

@[expose] public section

set_option maxRecDepth 16384

noncomputable section

namespace Cert.Fox.KernelIdeal

open Idealize.ShloMosaic Idealize.ShloMosaic.TcCoe Idealize.SL.Sem
open Cert.KernelIdeal Cert.KernelIdeal.Gen

section
variable (t : ℕ) (x0 : Vec Ideal S256x512 .bf16) (x1 : Vec Ideal S4096x512 .bf16) (x2 : Vec Ideal S1x8x256x512 .bf16) (h : ℕ) (x : Fin 256)

/-- The product of query `x` and key `j` of head `h`, over the head's channels. -/
def dotf (j : ℕ) : EReal := ∑ e : Fin 128, x1 (ix 4096 512 j (128 * h + e.val)) * x0 (ix 256 512 x.val (128 * h + e.val))

/-- The masked score. -/
def fsc (j : ℕ) : EReal := if j ≤ 256 * t + x.val then dotf x0 x1 h x j else ⊥

/-- The value of key `j` in channel `d`. -/
def vsc (d : Fin 64) (j : ℕ) : EReal := x2 (ixv (j / 512) (64 * h + d.val) (j % 512))

theorem pay2_dotf (k : ℕ) (a : Fin 512) : k1_pay2 (kb x1 k h) (qb x0 h) (ix2 a x) = dotf x0 x1 h x (512 * k + a.val) := by
  rw [pay2_apply]
  refine Finset.sum_congr rfl fun e _ => ?_
  show x1 (ix 4096 512 (512 * k + a.val) (128 * h + e.val)) * x0 (ix 256 512 (0 + x.val) (128 * h + e.val)) = _
  rw [Nat.zero_add]

theorem cblk_fsc (ht : t < 16) (a : Fin 512) : cblk t (kb x1 (t / 2) h) (qb x0 h) (ix2 a x) = fsc t x0 x1 h x (512 * (t / 2) + a.val) := by
  rw [cblk_apply t ht, pay2_dotf]; rfl

theorem sc_fsc (ht : t < 16) (k : ℕ) (hk : k ≤ t / 2) (a : Fin 512) : sc t x0 x1 k h (ix2 a x) = fsc t x0 x1 h x (512 * k + a.val) := by
  unfold sc
  by_cases hlt : k < t / 2
  · rw [if_pos hlt, pay3_apply, ← pay2_apply, pay2_dotf, fsc, if_pos (by omega)]
  · rw [if_neg hlt, show k = t / 2 by omega, cblk_fsc t x0 x1 h x ht]

/-- The running maxima, eight of them, are below a bound when the scores they took in are. -/
theorem mx_le (s : Fin 8) (b : EReal) : ∀ k : ℕ, mx x0 x1 h k (ix2 s x) ≤ b ↔ ∀ k', k' < k → ∀ a : Fin 64, dotf x0 x1 h x (512 * k' + (a.val * 8 + s.val)) ≤ b
  | 0 => by
    refine iff_of_true ?_ fun _ hk => absurd hk (Nat.not_lt_zero _)
    show (⊥ : EReal) ≤ b
    exact bot_le
  | k + 1 => by
    show k1_pay4 (mx x0 x1 h k) (kb x1 k h) (qb x0 h) (ix2 s x) ≤ b ↔ _
    rw [pay4_le, mx_le s b k]
    refine ⟨fun ⟨h1, h2⟩ k' hk' a => ?_, fun H => ⟨fun k' hk' => H k' (by omega), fun a => ?_⟩⟩
    · rcases Nat.lt_succ_iff_lt_or_eq.mp hk' with hlt | rfl
      · exact h1 k' hlt a
      · have := h2 a; rwa [pay2_dotf] at this
    · rw [pay2_dotf]; exact H k (Nat.lt_succ_self k) a

/-- A query's maximum is below a bound when all its scores are. -/
theorem rm_le (ht : t < 16) (b : EReal) : rm t x0 x1 h (ix2 0 x) ≤ b ↔ ∀ j, j < 512 * (t / 2 + 1) → fsc t x0 x1 h x j ≤ b := by
  unfold rm mxc
  rw [pay64_le]
  have hc : ∀ a : Fin 512, k1_pay57 (BitVec.ofNat 32 t) (iota .tc S512x256 32 [0] iota_S512x256_d0_w32) (iota .tc S512x256 32 [1] iota_S512x256_d1_w32) (BitVec.ofNat 32 (t / 2))
      (kb x1 (t / 2) h) (qb x0 h) (ix2 a x) = fsc t x0 x1 h x (512 * (t / 2) + a.val) := cblk_fsc t x0 x1 h x ht
  constructor
  · intro H j hj
    obtain ⟨h1, h2⟩ := (pay58_le _ _ _ _ _ _ _ _ _ _).mp (H ⟨j % 8, by omega⟩)
    by_cases hlt : j < 512 * (t / 2)
    · have := (mx_le x0 x1 h x _ b (t / 2)).mp h1 (j / 512) (by omega) ⟨j % 512 / 8, by omega⟩
      dsimp only at this
      rw [show 512 * (j / 512) + (j % 512 / 8 * 8 + j % 8) = j by omega] at this
      rw [fsc, if_pos (by omega)]; exact this
    · have := h2 ⟨(j - 512 * (t / 2)) / 8, by omega⟩
      rw [hc] at this
      dsimp only at this
      rwa [show 512 * (t / 2) + ((j - 512 * (t / 2)) / 8 * 8 + j % 8) = j by omega] at this
  · intro H s
    refine (pay58_le _ _ _ _ _ _ _ _ _ _).mpr ⟨(mx_le x0 x1 h x s b (t / 2)).mpr fun k' hk' a => ?_, fun a => ?_⟩
    · have := H (512 * k' + (a.val * 8 + s.val)) (by omega)
      rwa [fsc, if_pos (by omega)] at this
    · rw [hc]; exact H _ (by dsimp only; omega)

/-- The weight of key `j`. -/
def wt (j : ℕ) : EReal := Ideal.exp (fsc t x0 x1 h x j - rm t x0 x1 h (ix2 0 x))

theorem ls_sum (ht : t < 16) : ∀ k : ℕ, k ≤ t / 2 + 1 → ∑ s : Fin 8, ls t x0 x1 h k (ix2 s x) = ∑ j ∈ Finset.range (512 * k), wt t x0 x1 h x j
  | 0, _ => by
    refine Finset.sum_eq_zero fun s _ => ?_
    show Ideal.ofBits .f32 0x00000000#32 = 0
    exact ofBits_fzero
  | k + 1, hk => by
    show ∑ s : Fin 8, k1_pay20 (rm t x0 x1 h) (ls t x0 x1 h k) (sc t x0 x1 k h) (ix2 s x) = _
    simp only [pay20_apply, sc_fsc t x0 x1 h x ht k (by omega)]
    rw [Finset.sum_add_distrib, ls_sum ht k (by omega), Nat.mul_succ, Finset.sum_range_add]
    refine congrArg (_ + ·) ?_
    rw [← sum_fold fun r => wt t x0 x1 h x (512 * k + r)]
    refine Finset.sum_congr rfl fun s _ => Finset.sum_congr rfl fun a _ => ?_
    rw [Nat.mul_comm 8 a.val]; rfl

theorem ac_step (hh : h < 4) (m : Vec Ideal S1x256 .f32) (acc : Vec Ideal S64x256 .f32) (k : ℕ) (S : Vec Ideal S512x256 .f32) (d : Fin 64) :
    accStep h m acc (vb x2 k) S (ix2 d x) = acc (ix2 d x) + ∑ a : Fin 512, x2 (ixv k (64 * h + d.val) a.val) * Ideal.exp (S (ix2 a x) - m (ix2 0 x)) := by
  obtain rfl | rfl | rfl | rfl : h = 0 ∨ h = 1 ∨ h = 2 ∨ h = 3 := by omega
  · exact pay21_apply m acc (vb x2 k) S d x
  · exact pay24_apply m acc (vb x2 k) S d x
  · exact pay27_apply m acc (vb x2 k) S d x
  · exact pay78_apply m acc (vb x2 k) S d x

theorem ac_sum (ht : t < 16) (hh : h < 4) (d : Fin 64) : ∀ k : ℕ, k ≤ t / 2 + 1 →
    ac t x0 x1 x2 h k (ix2 d x) = ∑ j ∈ Finset.range (512 * k), vsc x2 h d j * wt t x0 x1 h x j
  | 0, _ => by
    show Ideal.ofBits .f32 0x00000000#32 = 0
    exact ofBits_fzero
  | k + 1, hk => by
    show accStep h (rm t x0 x1 h) (ac t x0 x1 x2 h k) (vb x2 k) (sc t x0 x1 k h) (ix2 d x) = _
    rw [ac_step x2 h x hh, ac_sum ht hh d k (by omega), Nat.mul_succ, Finset.sum_range_add]
    refine congrArg (_ + ·) ?_
    rw [Finset.sum_range]
    refine Finset.sum_congr rfl fun a _ => ?_
    rw [sc_fsc t x0 x1 h x ht k (by omega), vsc, show (512 * k + a.val) / 512 = k by omega, show (512 * k + a.val) % 512 = a.val by omega]
    rfl

/-- An entry of the output block: the weighted values over the weights. -/
theorem foxOut_apply (ht : t < 16) (hh : h < 4) (d : Fin 64) : foxOut t x0 x1 x2 (ix2 x (⟨64 * h + d.val, by omega⟩ : Fin 256))
    = Ideal.div (∑ j ∈ Finset.range (512 * (t / 2 + 1)), vsc x2 h d j * wt t x0 x1 h x j) (∑ j ∈ Finset.range (512 * (t / 2 + 1)), wt t x0 x1 h x j) := by
  rw [← ac_sum t x0 x1 x2 h x ht hh d _ le_rfl, ← ls_sum t x0 x1 h x ht _ le_rfl]
  unfold foxOut
  obtain rfl | rfl | rfl | rfl : h = 0 ∨ h = 1 ∨ h = 2 ∨ h = 3 := by omega
  · exact (pay1_apply0 _ _ _ _ _ x d).trans (pay82_apply _ _ d x)
  · exact (pay1_apply1 _ _ _ _ _ x d).trans (pay83_apply _ _ d x)
  · exact (pay1_apply2 _ _ _ _ _ x d).trans (pay84_apply _ _ d x)
  · exact (pay1_apply3 _ _ _ _ _ x d).trans (congrArg (Ideal.div _) (pay85_apply _ x))
end

end Cert.Fox.KernelIdeal

end
-- ==== Proof.RefRow.lean ====
/-
  The reference's forgetting attention at exact arithmetic, entry by entry.
-/
module

public import proofs.«01_k».proof.Proof.Gen.ReferenceIdeal.Run
public import proofs.«01_k».proof.Proof.Rows
public import Idealize.ShloMosaic.Lib.Pointwise
public import Idealize.ShloMosaic.Lib.WordCmp

@[expose] public section

set_option maxRecDepth 16384

noncomputable section

namespace Cert.Fox.ReferenceIdeal

open Idealize.ShloMosaic Idealize.ShloMosaic.TcCoe Idealize.SL.Sem
open Cert.ReferenceIdeal Cert.ReferenceIdeal.Gen

section
variable {F : FTy → Type} [FloatOps F]

/-- The softplus of a block, as written out by the host. -/
def spR (z : FVec F S16x4096x4 .f32) : FVec F S16x4096x4 .f32 :=
  select (cmpf .une (subf z (broadcastInDim S16x4096x4 ![] bcast_S_S16x4096x4 (constant S_ .f32 0x00000000#32))) (subf z (broadcastInDim S16x4096x4 ![] bcast_S_S16x4096x4 (constant S_ .f32 0x00000000#32))))
    (addf z (broadcastInDim S16x4096x4 ![] bcast_S_S16x4096x4 (constant S_ .f32 0x00000000#32)))
    (addf (maximumf z (broadcastInDim S16x4096x4 ![] bcast_S_S16x4096x4 (constant S_ .f32 0x00000000#32)))
      (Host.log1p (Host.exp (Host.negf (Host.absf (subf z (broadcastInDim S16x4096x4 ![] bcast_S_S16x4096x4 (constant S_ .f32 0x00000000#32))))))))
/-- The gates' logits. -/
def zR (f : FVec F S16x4096x4 .f32) (g : FVec F S4 .f32) : FVec F S16x4096x4 .f32 :=
  addf f (broadcastInDim S16x4096x4 ![0, 1, 2] bcast_S1x1x4_S16x4096x4_0_1_2 (broadcastInDim S1x1x4 ![2] bcast_S4_S1x1x4_2 g))
/-- The gates' logarithms. -/
def lgR (f : FVec F S16x4096x4 .f32) (g : FVec F S4 .f32) : FVec F S16x4096x4 .f32 := Host.negf (spR (Host.negf (zR f g)))
/-- The running sums along the sequence. -/
def cumR (l : FVec F S16x4096x4 .f32) : FVec F S16x4x4096 .f32 :=
  transpose S16x4x4096 [0, 2, 1] (Host.reduceWindowAdd ![1, 4096, 1] ![1, 1, 1] ![0, 4095, 0] ![0, 0, 0] l (broadcastInDim S_ ![] bcast_S_S_ (constant S_ .f32 0x00000000#32))
    reduceWindows_S16x4096x4_S16x4096x4_w1s1p0_0_w4096s1p4095_0_w1s1p0_0 h_S_) transposes_S16x4096x4_S16x4x4096_0_2_1
/-- The masked scores. -/
def scR (q k : FVec F S16x4096x256 .f32) (u : FVec F S16x4x4096 .f32) : FVec F S16x4x4096x4096 .f32 :=
  select (broadcastInDim S16x4x4096x4096 ![0, 1, 2, 3] bcast_S1x1x4096x4096_S16x4x4096x4096_0_1_2_3 (broadcastInDim S1x1x4096x4096 ![2, 3] bcast_S4096x4096_S1x1x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0))))))
    (subf (addf (mulf (Host.dotGeneral dot_S16x4096x4x64_S16x4096x4x64_S16x4x4096x4096_3_3_1_1_02_02 none (shapeCast S16x4096x4x64 q shapeCasts_S16x4096x256_S16x4096x4x64) (shapeCast S16x4096x4x64 k shapeCasts_S16x4096x256_S16x4096x4x64))
          (broadcastInDim S16x4x4096x4096 ![] bcast_S_S16x4x4096x4096 (constant S_ .f32 0x3E000000#32)))
        (broadcastInDim S16x4x4096x4096 ![0, 1, 2, 3] bcast_S16x4x4096x1_S16x4x4096x4096_0_1_2_3 (broadcastInDim S16x4x4096x1 ![0, 1, 2] bcast_S16x4x4096_S16x4x4096x1_0_1_2 u)))
      (broadcastInDim S16x4x4096x4096 ![0, 1, 2, 3] bcast_S16x4x1x4096_S16x4x4096x4096_0_1_2_3 (broadcastInDim S16x4x1x4096 ![0, 1, 3] bcast_S16x4x4096_S16x4x1x4096_0_1_3 u)))
    (broadcastInDim S16x4x4096x4096 ![] bcast_S_S16x4x4096x4096 (id (constant S_ .f32 0xFF800000#32)))
/-- The rows' maxima. -/
def mR (s : FVec F S16x4x4096x4096 .f32) : FVec F S16x4x4096 .f32 :=
  maximumf (broadcastInDim S16x4x4096 ![] bcast_S_S16x4x4096 (constant S_ .f32 0xFF800000#32))
    (Host.reduce FloatOps.maximumf s (constant S_ .f32 0xFF800000#32) reducesTo_S16x4x4096x4096_S16x4x4096_d3 h_S_)
/-- The weights. -/
def eR (s : FVec F S16x4x4096x4096 .f32) : FVec F S16x4x4096x4096 .f32 :=
  Host.exp (subf s (broadcastInDim S16x4x4096x4096 ![0, 1, 2, 3] bcast_S16x4x4096x1_S16x4x4096x4096_0_1_2_3 (broadcastInDim S16x4x4096x1 ![0, 1, 2] bcast_S16x4x4096_S16x4x4096x1_0_1_2 (mR s))))
/-- The weights, normalised. -/
def pR (e : FVec F S16x4x4096x4096 .f32) : FVec F S16x4x4096x4096 .f32 :=
  Host.divf e (broadcastInDim S16x4x4096x4096 ![0, 1, 2, 3] bcast_S16x4x4096x1_S16x4x4096x4096_0_1_2_3 (broadcastInDim S16x4x4096x1 ![0, 1, 2] bcast_S16x4x4096_S16x4x4096x1_0_1_2
    (Host.reduceAdd e (constant S_ .f32 0x00000000#32) reducesTo_S16x4x4096x4096_S16x4x4096_d3 h_S_)))
/-- The result. -/
def outR (v : FVec F S16x4096x256 .f32) (p : FVec F S16x4x4096x4096 .f32) : FVec F S65536x256 .bf16 :=
  truncf .bf16 (shapeCast S65536x256 (transpose S16x4096x4x64 [0, 3, 1, 2] (Host.dotGeneral dot_S16x4096x4x64_S16x4x4096x4096_S16x4x64x4096_1_3_3_2_02_01 none (shapeCast S16x4096x4x64 v shapeCasts_S16x4096x256_S16x4096x4x64) p)
    transposes_S16x4x64x4096_S16x4096x4x64_0_3_1_2) shapeCasts_S16x4096x4x64_S65536x256) bitsLt_bf16_f32

theorem res_eq (m : (ℓ : Loc nD τ sig) → Buf (Elt F) ℓ) (c : Dev nD) :
    Value.res_out0 m c = outR (m ((c.tc : Thread nD τ).loc main_arg2)) (pR (eR (scR (m ((c.tc : Thread nD τ).loc main_arg0)) (m ((c.tc : Thread nD τ).loc main_arg1))
      (cumR (lgR (m ((c.tc : Thread nD τ).loc main_arg3)) (m ((c.tc : Thread nD τ).loc main_arg4))))))) := by
  unfold Value.res_out0 Value.res_main_v40
  rfl
end

theorem hostMax_le {n0 n1 n2 n : ℕ} (s : FVec Ideal ⟨4, ![n0, n1, n2, n]⟩ .f32) (h : (⟨4, ![n0, n1, n2, n]⟩ : Shape).ReducesTo [3] ⟨3, ![n0, n1, n2]⟩) (hu : 0 < (⟨0, ![]⟩ : Shape).numel)
    (b : Fin n0) (k : Fin n1) (i : Fin n2) (y : EReal) :
    Host.reduce FloatOps.maximumf s (constant ⟨0, ![]⟩ .f32 0xFF800000#32) h hu (ix3 b k i) ≤ y ↔ ∀ j : Fin n, s (ix4 b k i j) ≤ y := by
  pointwise []
  rw [ofBits_ninf, Finset.fold_max_le]
  simp

theorem scR_apply (q k : FVec Ideal S16x4096x256 .f32) (u : FVec Ideal S16x4x4096 .f32) (b : Fin 16) (h : Fin 4) (i j : Fin 4096) :
    scR q k u (ix4 b h i j) = if j ≤ i then (∑ e : Fin 64, q (ix3 b i (⟨64 * h.val + e.val, by omega⟩ : Fin 256)) * k (ix3 b j (⟨64 * h.val + e.val, by omega⟩ : Fin 256))) * ((1 / 8 : ℝ) : EReal) + u (ix3 b h i) - u (ix3 b h j) else ⊥ := by
  pointwise [scR]
  rw [WordCmp.cmpi_sle_ofNat (by omega) (by omega)]
  simp only [Nat.mul_comm 64]
  by_cases hji : j ≤ i
  · rw [if_pos hji, decide_eq_true (show j.val ≤ i.val from hji), ofBits_eighth]; rfl
  · rw [if_neg hji, decide_eq_false (show ¬j.val ≤ i.val from hji)]
    exact ofBits_ninf

theorem eR_apply (s : FVec Ideal S16x4x4096x4096 .f32) (b : Fin 16) (h : Fin 4) (i j : Fin 4096) :
    eR s (ix4 b h i j) = Ideal.exp (s (ix4 b h i j) - mR s (ix3 b h i)) := by
  pointwise [eR]

theorem max_at (x : FVec Ideal S16x4x4096 .f32) (j : S16x4x4096.Idx) :
    maximumf (broadcastInDim S16x4x4096 ![] bcast_S_S16x4x4096 (constant S_ .f32 0xFF800000#32)) x j = max ⊥ (x j) :=
  congrArg (max · (x j)) ofBits_ninf

theorem mR_at (s : FVec Ideal S16x4x4096x4096 .f32) (j : S16x4x4096.Idx) :
    mR s j = max ⊥ (Host.reduce FloatOps.maximumf s (constant S_ .f32 0xFF800000#32) reducesTo_S16x4x4096x4096_S16x4x4096_d3 h_S_ j) := by
  unfold mR
  exact max_at _ j

theorem mR_le (s : FVec Ideal S16x4x4096x4096 .f32) (b : Fin 16) (h : Fin 4) (i : Fin 4096) (y : EReal) :
    mR s (ix3 b h i) ≤ y ↔ ∀ j : Fin 4096, s (ix4 b h i j) ≤ y := by
  rw [mR_at, max_le_iff, hostMax_le]
  exact ⟨fun h => h.2, fun h => ⟨bot_le, h⟩⟩

theorem pR_apply (s : FVec Ideal S16x4x4096x4096 .f32) (b : Fin 16) (h : Fin 4) (i j : Fin 4096) :
    pR s (ix4 b h i j) = Ideal.div (s (ix4 b h i j)) (∑ j : Fin 4096, s (ix4 b h i j)) := by
  pointwise [pR]

theorem outR_apply (v : FVec Ideal S16x4096x256 .f32) (p : FVec Ideal S16x4x4096x4096 .f32) (b : Fin 16) (h : Fin 4) (i : Fin 4096) (d : Fin 64) :
    outR v p (ix2 (⟨4096 * b.val + i.val, by omega⟩ : Fin 65536) (⟨64 * h.val + d.val, by omega⟩ : Fin 256)) = ∑ j : Fin 4096, v (ix3 b j (⟨64 * h.val + d.val, by omega⟩ : Fin 256)) * p (ix4 b h i j) := by
  pointwise [outR]
  simp only [Nat.mul_comm 64]

theorem zR_apply (f : FVec Ideal S16x4096x4 .f32) (g : FVec Ideal S4 .f32) (b : Fin 16) (s : Fin 4096) (k : Fin 4) : zR f g (ix3 b s k) = f (ix3 b s k) + g (ix1 k) := by
  pointwise [zR]

theorem lgR_apply (f : FVec Ideal S16x4096x4 .f32) (g : FVec Ideal S4 .f32) (b : Fin 16) (s : Fin 4096) (k : Fin 4) (z : ℝ) (hz : f (ix3 b s k) + g (ix1 k) = (z : EReal)) :
    lgR f g (ix3 b s k) = ((min z 0 - Real.log (1 + Real.exp (-|z|)) : ℝ) : EReal) := by
  pointwise [lgR, spR, zR]
  rw [hz, if_neg (by simp)]
  rw [← EReal.coe_neg, show FloatOps.absf (F := Ideal) (φ := .f32) ((-z : ℝ) : EReal) = ((|z| : ℝ) : EReal) from ?_]
  · rw [← EReal.coe_neg, Ideal.exp_coe, log1p_coe (Real.exp_pos _), show (0 : EReal) = ((0 : ℝ) : EReal) from rfl, ← EReal.coe_strictMono.monotone.map_max, ← EReal.coe_add, ← EReal.coe_neg]
    refine congrArg _ ?_
    rw [neg_add, ← min_neg_neg, neg_neg, neg_zero]; rfl
  · show max ((-z : ℝ) : EReal) (-((-z : ℝ) : EReal)) = _
    rw [← EReal.coe_neg, ← EReal.coe_strictMono.monotone.map_max, neg_neg, max_comm]; rfl

end Cert.Fox.ReferenceIdeal

end
-- ==== Proof.RefPrefix.lean ====
/-
  The reference's running sums at exact arithmetic: the window sum along the sequence, entry by entry.
-/
module

public import proofs.«01_k».proof.Proof.RefRow
public import proofs.«01_k».proof.Proof.Rows
public import Idealize.ShloMosaic.Lib.Pointwise
public import Idealize.ShloMosaic.Lib.WordCmp

@[expose] public section

set_option maxRecDepth 16384

noncomputable section

namespace Cert.Fox.ReferenceIdeal

open Idealize.ShloMosaic Idealize.ShloMosaic.TcCoe Idealize.SL.Sem
open Cert.ReferenceIdeal Cert.ReferenceIdeal.Gen

theorem foldl_add {N : ℕ} (g : Fin N → EReal) (v : EReal) : (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

/-- The window's one long axis. -/
def winEquiv : (⟨3, ![1, 4096, 1]⟩ : Shape).Idx ≃ Fin 4096 where
  toFun i := i 1
  invFun w := ix3 0 w 0
  left_inv i := by
    funext a
    match a with
    | ⟨0, _⟩ => exact Subsingleton.elim (α := Fin 1) _ _
    | ⟨1, _⟩ => rfl
    | ⟨2, _⟩ => exact Subsingleton.elim (α := Fin 1) _ _
  right_inv _ := rfl

/-- A window sum from zero: the sum over the window's places, those in the padding left out. -/
theorem window_sum {s t : Shape} (window strides lo hi : Fin s.rank → ℕ) (h : s.ReduceWindows window strides lo hi t) (x : s.Idx → EReal) (j : t.Idx) :
    Ideal.hostReduceWindowAdd window strides lo hi h x 0 j = ∑ w : (⟨s.rank, window⟩ : Shape).Idx,
      if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else 0 := by
  unfold Ideal.hostReduceWindowAdd Host.reduceWindow
  dsimp only
  rw [foldl_add, zero_add]
  rw [← Equiv.sum_comp (Shape.rowMajor (⟨s.rank, window⟩ : Shape)).symm]
  exact Finset.sum_congr rfl fun n _ => by congr

theorem shift_sum (s : ℕ) (hsl : s < 4096) (L : ℕ → EReal) : (∑ w ∈ Finset.range 4096, if 4095 ≤ s + w then L (s + w - 4095) else 0) = ∑ j ∈ Finset.range (s + 1), L j := by
  rw [show 4096 = (4095 - s) + (s + 1) by omega, Finset.sum_range_add, Finset.sum_eq_zero, zero_add]
  · exact Finset.sum_congr rfl fun j hj => by rw [if_pos (by omega)]; exact congrArg L (by omega)
  · exact fun j hj => if_neg (by have := Finset.mem_range.mp hj; omega)

theorem tr_apply (y : FVec Ideal S16x4096x4 .f32) (b : Fin 16) (s : Fin 4096) (k : Fin 4) :
    transpose S16x4x4096 [0, 2, 1] y transposes_S16x4096x4_S16x4x4096_0_2_1 (ix3 b k s) = y (ix3 b s k) := by
  pointwise []

/-- The running sum along the sequence. -/
theorem cum_apply (x : FVec Ideal S16x4096x4 .f32) (b : Fin 16) (s : Fin 4096) (k : Fin 4) (L : ℕ → EReal) (hL : ∀ j : Fin 4096, x (ix3 b j k) = L j.val) :
    cumR x (ix3 b k s) = ∑ j ∈ Finset.range (s.val + 1), L j := by
  unfold cumR
  rw [tr_apply]
  unfold Host.reduceWindowAdd
  rw [Ideal.hostReduceWindowAdd_def, show broadcastInDim S_ ![] bcast_S_S_ (constant S_ .f32 0x00000000#32 : FVec Ideal S_ .f32) (Shape.Idx.first h_S_) = 0 from ofBits_fzero, window_sum]
  rw [← Equiv.sum_comp winEquiv.symm]
  have hsl := s.isLt
  rw [Finset.sum_congr rfl (g := fun w : Fin 4096 => if 4095 ≤ s.val + w.val then L (s.val + w.val - 4095) else 0) ?_]
  · exact (Finset.sum_range (fun w => if 4095 ≤ s.val + w then L (s.val + w - 4095) else 0)).symm.trans (shift_sum s.val hsl L)
  · intro w _
    have hw := w.isLt
    have hb := b.isLt
    have hk := k.isLt
    by_cases hc : 4095 ≤ s.val + w.val
    · rw [if_pos hc, dif_pos ?_]
      · rw [← hL ⟨s.val + w.val - 4095, by omega⟩]
        refine congrArg x (funext fun a => Fin.ext ?_)
        match a with
        | ⟨0, _⟩ => show b.val * 1 + 0 - 0 = b.val; omega
        | ⟨1, _⟩ => show s.val * 1 + w.val - 4095 = s.val + w.val - 4095; omega
        | ⟨2, _⟩ => show k.val * 1 + 0 - 0 = k.val; omega
      · intro a
        match a with
        | ⟨0, _⟩ => show 0 ≤ b.val * 1 + 0 ∧ b.val * 1 + 0 - 0 < 16; omega
        | ⟨1, _⟩ => show 4095 ≤ s.val * 1 + w.val ∧ s.val * 1 + w.val - 4095 < 4096; omega
        | ⟨2, _⟩ => show 0 ≤ k.val * 1 + 0 ∧ k.val * 1 + 0 - 0 < 4; omega
    · rw [if_neg hc, dif_neg ?_]
      intro hin
      have h1 : 4095 ≤ s.val * 1 + w.val := (hin 1).1
      omega

end Cert.Fox.ReferenceIdeal

end
-- ==== Proof.IdealMatch.lean ====
/-
  A row of the forgetting attention: what the kernel's body leaves for it is what the reference has for it, the queries,
  the keys and the gates' logits being real numbers.
-/
module

public import proofs.«01_k».proof.Proof.IdealPlanes
public import proofs.«01_k».proof.Proof.IdealHost
public import proofs.«01_k».proof.Proof.IdealRow
public import proofs.«01_k».proof.Proof.RefPrefix

@[expose] public section

set_option maxRecDepth 16384

noncomputable section

namespace Cert.Fox

open Idealize.ShloMosaic Idealize.ShloMosaic.TcCoe Idealize.SL.Sem
open Cert.KernelIdeal Cert.KernelIdeal.Gen Cert.Fox.KernelIdeal Cert.Fox.ReferenceIdeal

theorem ix_eq {n m : ℕ} [NeZero n] [NeZero m] {r c : ℕ} (hr : r < n) (hc : c < m) : ix n m r c = ix2 (⟨r, hr⟩ : Fin n) (⟨c, hc⟩ : Fin m) := by
  funext a
  match a with
  | ⟨0, _⟩ => exact Fin.ext (Nat.mod_eq_of_lt hr)
  | ⟨1, _⟩ => exact Fin.ext (Nat.mod_eq_of_lt hc)

theorem ixv_eq {k r c : ℕ} (hk : k < 8) (hr : r < 256) (hc : c < 512) : ixv k r c = ix4 (0 : Fin 1) (⟨k, hk⟩ : Fin 8) (⟨r, hr⟩ : Fin 256) (⟨c, hc⟩ : Fin 512) := by
  funext a
  match a with
  | ⟨0, _⟩ => rfl
  | ⟨1, _⟩ => exact Fin.ext (Nat.mod_eq_of_lt hk)
  | ⟨2, _⟩ => exact Fin.ext (Nat.mod_eq_of_lt hr)
  | ⟨3, _⟩ => exact Fin.ext (Nat.mod_eq_of_lt hc)

theorem sum_halves (G : Fin 128 → ℝ) : ∑ e, G e = ∑ e : Fin 64, G (Fin.castAdd 64 e) + ∑ e : Fin 64, G (Fin.natAdd 64 e) :=
  Fin.sum_univ_add (a := 64) (b := 64) G

/-- The logarithm of a gate. -/
def lsig (z : ℝ) : ℝ := min z 0 - Real.log (1 + Real.exp (-|z|))

section
variable (q k v : FVec Ideal S16x4096x256 .f32) (f : FVec Ideal S16x4096x4 .f32) (g : FVec Ideal S4 .f32)
variable (Q K : S16x4096x256.Idx → ℝ) (Z : S16x4096x4.Idx → ℝ)
variable (hQ : ∀ i, q i = (Q i : EReal)) (hK : ∀ i, k i = (K i : EReal)) (hZ : ∀ b s h, f (ix3 b s h) + g (ix1 h) = (Z (ix3 b s h) : EReal))
variable (b : Fin 16) (h : Fin 4)

/-- The gates' logarithms of a batch entry and head. -/
def lgs (j : ℕ) : ℝ := lsig (Z (ix3 b (Fin.ofNat 4096 j) h))
/-- Their running sums. -/
def cs (s : ℕ) : ℝ := ∑ j ∈ Finset.range (s + 1), lgs Z b h j
/-- The score of query `r` and key `j`. -/
def sr (r : Fin 4096) (j : ℕ) : ℝ := (∑ e : Fin 64, Q (ix3 b r (⟨64 * h.val + e.val, by omega⟩ : Fin 256)) * K (ix3 b (Fin.ofNat 4096 j) (⟨64 * h.val + e.val, by omega⟩ : Fin 256))) * (1 / 8) + cs Z b h r.val - cs Z b h j
/-- The masked score. -/
def fr (r : Fin 4096) (j : ℕ) : EReal := if j ≤ r.val then (sr Q K Z b h r j : EReal) else ⊥

theorem ofNat_fin {n : ℕ} [NeZero n] (j : Fin n) : Fin.ofNat n j.val = j := Fin.ext (Nat.mod_eq_of_lt j.isLt)
theorem ofNat_lt {n : ℕ} [NeZero n] {j : ℕ} (hj : j < n) : Fin.ofNat n j = ⟨j, hj⟩ := Fin.ext (Nat.mod_eq_of_lt hj)

include hZ in
theorem plane_apply (p : Fin 3) (s : Fin 4096) : out0_2 (F := Ideal) (fT f) (gT g) (ix3 p (⟨4 * b.val + h.val, by omega⟩ : Fin 64) s) = if p = 0 then (cs Z b h s.val : EReal) else 0 := by
  refine out0_apply (fT f) (gT g) _ (lgs Z b h) (fun s => ?_) p s
  rw [lg_apply (z := Z (ix3 b s h)) _ _ _ _ (by rw [fT_apply, gT_apply, hZ]), lgs, ofNat_fin]
  rfl

include hZ in
theorem cumR_apply (s : Fin 4096) : cumR (lgR f g) (ix3 b h s) = (cs Z b h s.val : EReal) := by
  rw [cum_apply (lgR f g) b s h (fun j => (lgs Z b h j : EReal)) fun j => ?_, coe_sum]
  · rfl
  · rw [lgR_apply f g b j h _ (hZ b j h), lgs, ofNat_fin]; rfl

include hQ hK hZ in
theorem ref_score (r j : Fin 4096) : scR q k (cumR (lgR f g)) (ix4 b h r j) = fr Q K Z b h r j.val := by
  rw [scR_apply, cumR_apply f g Z hZ, cumR_apply f g Z hZ]
  unfold fr
  by_cases hjr : j ≤ r
  · rw [if_pos hjr, if_pos (show j.val ≤ r.val from hjr)]
    simp only [hQ, hK, ← EReal.coe_mul, coe_sum, ← EReal.coe_add, ← EReal.coe_sub]
    unfold sr
    rw [ofNat_fin]
  · rw [if_neg hjr, if_neg (show ¬j.val ≤ r.val from hjr)]

include hQ hK hZ in
theorem ker_score (r j : Fin 4096) :
    ∑ e : Fin 128, kT (obT q k v) (out0_2 (F := Ideal) (fT f) (gT g)) (ix2 (⟨4096 * b.val + j.val, by omega⟩ : Fin 65536) (⟨128 * h.val + e.val, by omega⟩ : Fin 512))
        * qT (obT q k v) (out0_2 (F := Ideal) (fT f) (gT g)) (ix2 (⟨4096 * b.val + r.val, by omega⟩ : Fin 65536) (⟨128 * h.val + e.val, by omega⟩ : Fin 512))
      = (sr Q K Z b h r j.val : EReal) := by
  have hterm : ∀ e : Fin 128, kT (obT q k v) (out0_2 (F := Ideal) (fT f) (gT g)) (ix2 (⟨4096 * b.val + j.val, by omega⟩ : Fin 65536) (⟨128 * h.val + e.val, by omega⟩ : Fin 512))
        * qT (obT q k v) (out0_2 (F := Ideal) (fT f) (gT g)) (ix2 (⟨4096 * b.val + r.val, by omega⟩ : Fin 65536) (⟨128 * h.val + e.val, by omega⟩ : Fin 512))
      = (((if he : e.val < 64 then K (ix3 b j (⟨64 * h.val + e.val, by omega⟩ : Fin 256)) * (Q (ix3 b r (⟨64 * h.val + e.val, by omega⟩ : Fin 256)) * (1 / 8)) else 0)
        + ((if e.val = 64 then cs Z b h r.val else 0) + (if e.val = 67 then -cs Z b h j.val else 0)) : ℝ) : EReal) := by
    intro e
    rw [kT_apply, qT_apply]
    by_cases h1 : e.val < 64
    · rw [dif_pos h1, dif_pos h1, dif_pos h1, if_neg (by omega), if_neg (by omega)]
      have e1 := obT_k q k v b j (⟨64 * h.val + e.val, by omega⟩ : Fin 256)
      have e2 := obT_q q k v b r (⟨64 * h.val + e.val, by omega⟩ : Fin 256)
      dsimp only at e1 e2
      rw [e1, e2, hK, hQ, ← EReal.coe_mul, ← EReal.coe_mul]
      simp
    rw [dif_neg h1, dif_neg h1, dif_neg h1]
    by_cases h2 : e.val < 67
    · rw [if_pos h2, dif_pos h2, plane_apply f g Z hZ, one_mul, if_neg (show ¬e.val = 67 by omega)]
      by_cases h4 : e.val = 64
      · rw [if_pos h4, if_pos (Fin.ext (by show e.val - 64 = 0; omega))]; simp
      · rw [if_neg h4, if_neg (fun hh => h4 (by have := congrArg Fin.val hh; change e.val - 64 = 0 at this; omega))]; simp
    rw [if_neg h2, dif_neg h2, if_neg (show ¬e.val = 64 by omega)]
    by_cases h3 : e.val < 70
    · rw [dif_pos h3, if_pos h3, plane_apply f g Z hZ, mul_one]
      by_cases h4 : e.val = 67
      · rw [if_pos h4, if_pos (Fin.ext (by show e.val - 67 = 0; omega))]; simp
      · rw [if_neg h4, if_neg (fun hh => h4 (by have := congrArg Fin.val hh; change e.val - 67 = 0 at this; omega))]; simp
    · rw [dif_neg h3, if_neg h3, if_neg (show ¬e.val = 67 by omega)]; simp
  rw [Finset.sum_congr rfl fun e _ => hterm e, coe_sum]
  refine congrArg _ ?_
  rw [Finset.sum_add_distrib, Finset.sum_add_distrib]
  have s1 : (∑ e : Fin 128, if e.val = 64 then cs Z b h r.val else 0) = cs Z b h r.val :=
    (Finset.sum_eq_single (64 : Fin 128) (fun e _ he => if_neg fun hh => he (Fin.ext hh)) (fun hh => absurd (Finset.mem_univ _) hh)).trans (if_pos rfl)
  have s2 : (∑ e : Fin 128, if e.val = 67 then -cs Z b h j.val else 0) = -cs Z b h j.val :=
    (Finset.sum_eq_single (67 : Fin 128) (fun e _ he => if_neg fun hh => he (Fin.ext hh)) (fun hh => absurd (Finset.mem_univ _) hh)).trans (if_pos rfl)
  rw [s1, s2]
  have s3 : (∑ e : Fin 128, if he : e.val < 64 then K (ix3 b j (⟨64 * h.val + e.val, by omega⟩ : Fin 256)) * (Q (ix3 b r (⟨64 * h.val + e.val, by omega⟩ : Fin 256)) * (1 / 8)) else 0)
      = (∑ e : Fin 64, Q (ix3 b r (⟨64 * h.val + e.val, by omega⟩ : Fin 256)) * K (ix3 b j (⟨64 * h.val + e.val, by omega⟩ : Fin 256))) * (1 / 8) := by
    rw [Finset.sum_mul, sum_halves]
    rw [show (∑ e : Fin 64, if he : (Fin.natAdd 64 e).val < 64 then K (ix3 b j (⟨64 * h.val + (Fin.natAdd 64 e).val, by omega⟩ : Fin 256)) * (Q (ix3 b r (⟨64 * h.val + (Fin.natAdd 64 e).val, by omega⟩ : Fin 256)) * (1 / 8)) else 0) = 0 from
      Finset.sum_eq_zero fun e _ => dif_neg (by simp), add_zero]
    refine Finset.sum_congr rfl fun e _ => ?_
    rw [dif_pos (show (Fin.castAdd 64 e).val < 64 from e.isLt)]
    show K (ix3 b j (⟨64 * h.val + e.val, _⟩ : Fin 256)) * (Q (ix3 b r (⟨64 * h.val + e.val, _⟩ : Fin 256)) * (1 / 8)) = _
    ring
  rw [s3]
  unfold sr
  rw [ofNat_fin]; ring

variable (i : Fin 16) (x : Fin 256) (d : Fin 64) (x0 : Vec Ideal S256x512 .bf16) (x1 : Vec Ideal S4096x512 .bf16) (x2 : Vec Ideal S1x8x256x512 .bf16)

include hQ hK hZ in
theorem row_eq
    (hx0 : ∀ (x : Fin 256) (e : Fin 512), x0 (ix2 x e) = qT (obT q k v) (out0_2 (F := Ideal) (fT f) (gT g)) (ix2 (⟨4096 * b.val + (256 * i.val + x.val), by omega⟩ : Fin 65536) e))
    (hx1 : ∀ (j : Fin 4096) (e : Fin 512), x1 (ix2 j e) = kT (obT q k v) (out0_2 (F := Ideal) (fT f) (gT g)) (ix2 (⟨4096 * b.val + j.val, by omega⟩ : Fin 65536) e))
    (hx2 : ∀ (n : Fin 8) (e : Fin 256) (j : Fin 512), x2 (ix4 (0 : Fin 1) n e j) = vT (obT q k v) (ix4 b n e j)) :
    foxOut i.val x0 x1 x2 (ix2 x (⟨64 * h.val + d.val, by omega⟩ : Fin 256))
      = outR v (pR (eR (scR q k (cumR (lgR f g))))) (ix2 (⟨4096 * b.val + (256 * i.val + x.val), by omega⟩ : Fin 65536) (⟨64 * h.val + d.val, by omega⟩ : Fin 256)) := by
  have hr : 256 * i.val + x.val < 4096 := by omega
  have hfsc : ∀ j, j < 4096 → fsc i.val x0 x1 h.val x j = fr Q K Z b h ⟨256 * i.val + x.val, hr⟩ j := by
    intro j hj
    unfold fsc fr
    refine if_congr Iff.rfl ?_ rfl
    rw [← ker_score q k v f g Q K Z hQ hK hZ b h ⟨256 * i.val + x.val, hr⟩ ⟨j, hj⟩]
    unfold dotf
    refine Finset.sum_congr rfl fun e _ => ?_
    rw [ix_eq hj (show 128 * h.val + e.val < 512 by omega), ix_eq x.isLt (show 128 * h.val + e.val < 512 by omega), hx1, hx0]
  have hv : ∀ j, j < 4096 → vsc x2 h.val d j = v (ix3 b (Fin.ofNat 4096 j) (⟨64 * h.val + d.val, by omega⟩ : Fin 256)) := by
    intro j hj
    unfold vsc
    rw [ixv_eq (show j / 512 < 8 by omega) (show 64 * h.val + d.val < 256 by omega) (show j % 512 < 512 by omega), hx2, vT_apply]
    have e1 := obT_v q k v b (Fin.ofNat 4096 j) (⟨64 * h.val + d.val, by omega⟩ : Fin 256)
    rw [← e1]
    refine congrArg (fun r => obT q k v (ix2 r _)) (Fin.ext ?_)
    show 4096 * b.val + (512 * (j / 512) + j % 512) = 4096 * b.val + j % 4096
    omega
  have hn : 512 * (i.val / 2 + 1) ≤ 4096 := by omega
  rw [foxOut_apply i.val x0 x1 x2 h.val x i.isLt h.isLt d]
  have e1 : ∑ j ∈ Finset.range (512 * (i.val / 2 + 1)), vsc x2 h.val d j * wt i.val x0 x1 h.val x j
      = ∑ j ∈ Finset.range (512 * (i.val / 2 + 1)), v (ix3 b (Fin.ofNat 4096 j) (⟨64 * h.val + d.val, by omega⟩ : Fin 256)) * Ideal.exp (fr Q K Z b h ⟨256 * i.val + x.val, hr⟩ j - rm i.val x0 x1 h.val (ix2 0 x)) :=
    Finset.sum_congr rfl fun j hj => by unfold wt; rw [hv j (by have := Finset.mem_range.mp hj; omega), hfsc j (by have := Finset.mem_range.mp hj; omega)]
  have e2 : ∑ j ∈ Finset.range (512 * (i.val / 2 + 1)), wt i.val x0 x1 h.val x j
      = ∑ j ∈ Finset.range (512 * (i.val / 2 + 1)), Ideal.exp (fr Q K Z b h ⟨256 * i.val + x.val, hr⟩ j - rm i.val x0 x1 h.val (ix2 0 x)) :=
    Finset.sum_congr rfl fun j hj => by unfold wt; rw [hfsc j (by have := Finset.mem_range.mp hj; omega)]
  rw [e1, e2]
  rw [row_quotient hn (fr Q K Z b h ⟨256 * i.val + x.val, hr⟩) (fun j => v (ix3 b (Fin.ofNat 4096 j) (⟨64 * h.val + d.val, by omega⟩ : Fin 256))) (256 * i.val + x.val) (by omega)
    (by unfold fr; rw [if_pos le_rfl]; exact EReal.coe_ne_bot _)
    (fun j => by unfold fr; split; exact EReal.coe_ne_top _; exact bot_ne_top)
    (fun j hj => by unfold fr; rw [if_neg (by dsimp only; omega)])
    (rm i.val x0 x1 h.val (ix2 0 x)) (mR (scR q k (cumR (lgR f g))) (ix3 b h ⟨256 * i.val + x.val, hr⟩))
    (fun y => by
      rw [rm_le i.val x0 x1 h.val x i.isLt]
      exact forall_congr' fun j => ⟨fun H hj => by rw [← hfsc j (by omega)]; exact H hj, fun H hj => by rw [hfsc j (by omega)]; exact H hj⟩)
    (fun y => by
      rw [mR_le]
      constructor
      · intro H j hj
        have := H ⟨j, hj⟩
        rwa [ref_score q k f g Q K Z hQ hK hZ b h] at this
      · intro H j
        rw [ref_score q k f g Q K Z hQ hK hZ b h]; exact H j.val j.isLt)]
  have hout := outR_apply v (pR (eR (scR q k (cumR (lgR f g))))) b h ⟨256 * i.val + x.val, hr⟩ d
  dsimp only at hout
  rw [hout, Finset.sum_range]
  refine Finset.sum_congr rfl fun j _ => ?_
  rw [pR_apply, ofNat_fin]
  simp only [eR_apply, ref_score q k f g Q K Z hQ hK hZ b h]
  rw [Finset.sum_range]
end

end Cert.Fox

end
-- ==== Proof.Finite.lean ====
/-
  What the precondition says of an element: the queries, the keys and the gates' logits are real numbers.
-/
module

public import proofs.«01_k».proof.Pre_finite
public import proofs.«01_k».proof.Proof.Rows
public import Idealize.ShloMosaic.Lib.Pointwise

@[expose] public section

set_option maxRecDepth 16384

noncomputable section

namespace Cert.Fox.Finite

open Idealize.ShloMosaic Cert.Pre_finite

/-- The precondition's own shapes fit. -/
theorem facts : Cert.Pre_finite.Facts := ⟨by decide, by decide, by decide, by decide⟩

/-- A value whose absolute value is below plus infinity is a real number. -/
theorem real_of_abs_lt {x : EReal} (h : max x (-x) < ⊤) : ∃ r : ℝ, x = r := by
  induction x using EReal.rec with
  | bot => simp at h
  | coe r => exact ⟨r, rfl⟩
  | top => simp at h

variable [Cert.Pre_finite.Facts] (q k v : FVec Ideal S16x4096x256 .f32) (f : FVec Ideal S16x4096x4 .f32) (g : FVec Ideal S4 .f32)
variable (h : Cert.Pre_finite.fn (F := Ideal) q k v f g = fun _ => 1#1)

/-- The element of the precondition's comparison. -/
theorem bit_iff (x : EReal) : BitVec.ofBool (decide (FloatOps.absf (F := Ideal) (φ := .f32) x < Ideal.ofBits .f32 0x7F800000#32)) = 1#1 ↔ max x (-x) < ⊤ := by
  rw [ofBits_inf]
  show BitVec.ofBool (decide (max x (-x) < ⊤)) = 1#1 ↔ _
  by_cases hx : max x (-x) < ⊤ <;> simp only [hx, decide_true, decide_false] <;> decide

include h in
theorem real_q (b : Fin 16) (s : Fin 4096) (e : Fin 256) : ∃ r : ℝ, q (ix3 b s e) = r := by
  refine real_of_abs_lt ((bit_iff _).mp (Eq.trans (Eq.symm ?_) (congrFun h (ix3 b s (⟨e.val, by omega⟩ : Fin 516)))))
  pointwise [Cert.Pre_finite.fn]

include h in
theorem real_k (b : Fin 16) (s : Fin 4096) (e : Fin 256) : ∃ r : ℝ, k (ix3 b s e) = r := by
  refine real_of_abs_lt ((bit_iff _).mp (Eq.trans (Eq.symm ?_) (congrFun h (ix3 b s (⟨256 + e.val, by omega⟩ : Fin 516)))))
  pointwise [Cert.Pre_finite.fn]

include h in
theorem real_z (b : Fin 16) (s : Fin 4096) (e : Fin 4) : ∃ r : ℝ, f (ix3 b s e) + g (ix1 e) = r := by
  refine real_of_abs_lt ((bit_iff _).mp (Eq.trans (Eq.symm ?_) (congrFun h (ix3 b s (⟨512 + e.val, by omega⟩ : Fin 516)))))
  pointwise [Cert.Pre_finite.fn]
  rw [dif_neg (by omega), dif_neg (by omega)]
  have he : ∀ hp, (⟨512 + e.val - 256 - 256, hp⟩ : Fin 4) = e := fun hp => Fin.ext (by show 512 + e.val - 256 - 256 = e.val; omega)
  rw [he]

end Cert.Fox.Finite

end
-- ==== Proof.IdealValue.lean ====
/-
  The array the attention's write-backs leave is the reference's result.
-/
module

public import proofs.«01_k».proof.Proof.IdealMatch
public import proofs.«01_k».proof.Proof.Finite

@[expose] public section

set_option maxRecDepth 16384

noncomputable section

namespace Cert.Fox.KernelIdeal

open Idealize.ShloMosaic Idealize.ShloMosaic.TcCoe Idealize.SL.Sem
open Cert.KernelIdeal Cert.KernelIdeal.Gen Cert.Fox.ReferenceIdeal

theorem idx1 : ∀ t : Fin cfg1.N, win1_0.index t = ![t.val, 0] ∧ win1_1.index t = ![t.val / 16, 0] ∧ win1_2.index t = ![t.val / 16, 0, 0, 0]
    ∧ win1_3.index t = ![t.val, 0] ∧ ((grid1.coords t) 1).val = t.val % 16 :=
  (by decide +kernel : ∀ t : Fin grid1.N, _)

theorem lt1 (t : Fin cfg1.N) : t.val < 256 := t.isLt

section
variable (V : (c : Dev nD) → (b : Ref sig .tc) → Buf (Elt Ideal) ((c : Thread nD τ).loc b)) (c : Dev nD)

theorem iblk1_0 (t : Fin cfg1.N) (x : Fin 256) (e : Fin 512) :
    iblk1 V c 0 t (ix2 x e) = V c main_v24 (ix2 (⟨256 * t.val + x.val, by have := lt1 t; omega⟩ : Fin 65536) e) := by
  blk_ext! [iblk1, idx1 t]
theorem iblk1_1 (t : Fin cfg1.N) (x : Fin 4096) (e : Fin 512) :
    iblk1 V c 1 t (ix2 x e) = V c main_v27 (ix2 (⟨4096 * (t.val / 16) + x.val, by have := lt1 t; omega⟩ : Fin 65536) e) := by
  blk_ext! [iblk1, idx1 t]
theorem iblk1_2 (t : Fin cfg1.N) (n : Fin 8) (e : Fin 256) (j : Fin 512) :
    iblk1 V c 2 t (ix4 (0 : Fin 1) n e j) = V c main_v30 (ix4 (⟨t.val / 16, by have := lt1 t; omega⟩ : Fin 16) n e j) := by
  blk_ext! [iblk1, idx1 t]
end

section
variable (m : (ℓ : Loc nD τ sig) → Buf (Elt Ideal) ℓ) (ρ : Dev nD → PrngReg) (c : Dev nD)
variable (q k v : FVec Ideal S16x4096x256 .f32) (f : FVec Ideal S16x4096x4 .f32) (g : FVec Ideal S4 .f32)
variable (h0 : m ((c : Thread nD τ).loc main_arg0) = q) (h1 : m ((c : Thread nD τ).loc main_arg1) = k) (h2 : m ((c : Thread nD τ).loc main_arg2) = v)
variable (h3 : m ((c : Thread nD τ).loc main_arg3) = f) (h4 : m ((c : Thread nD τ).loc main_arg4) = g)

include h0 h1 h2 in
theorem W2_v6 : W2 m ρ c (Proc.devRef .tc main_v6) = obT q k v := by
  rw [W2_of_ne m ρ c main_v6 (by decide), W1_v6, h0, h1, h2]
include h3 h4 in
theorem W2_v13 : W2 m ρ c (Proc.devRef .tc main_v13) = out0_2 (F := Ideal) (fT f) (gT g) := by
  refine (W2_arr m ρ c 2).trans ((final0 (V1 m ρ) c).trans ?_)
  rw [show V1 m ρ c main_v8 = fT f by rw [← h3]; exact W1_v8 m ρ c, show V1 m ρ c main_v12 = gT g by rw [← h4]; exact W1_v12 m ρ c]

include h0 h1 h2 h3 h4 in
theorem V3_v24 : V3 m ρ c main_v24 = qT (obT q k v) (out0_2 (F := Ideal) (fT f) (gT g)) := by
  refine (W3_v24 m ρ c).trans ?_
  rw [W2_v6 m ρ c q k v h0 h1 h2, W2_v13 m ρ c f g h3 h4]
include h0 h1 h2 h3 h4 in
theorem V3_v27 : V3 m ρ c main_v27 = kT (obT q k v) (out0_2 (F := Ideal) (fT f) (gT g)) := by
  refine (W3_v27 m ρ c).trans ?_
  rw [W2_v6 m ρ c q k v h0 h1 h2, W2_v13 m ρ c f g h3 h4]
include h0 h1 h2 in
theorem V3_v30 : V3 m ρ c main_v30 = vT (obT q k v) := by
  refine (W3_v30 m ρ c).trans ?_
  rw [W2_v6 m ρ c q k v h0 h1 h2]

variable (Q K : S16x4096x256.Idx → ℝ) (Z : S16x4096x4.Idx → ℝ)
variable (hQ : ∀ i, q i = (Q i : EReal)) (hK : ∀ i, k i = (K i : EReal)) (hZ : ∀ b s h, f (ix3 b s h) + g (ix1 h) = (Z (ix3 b s h) : EReal))

include h0 h1 h2 h3 h4 hQ hK hZ in
/-- A block's element is the reference's. -/
theorem block_eq (t : Fin cfg1.N) (y : S256x256.Idx) :
    outsAt1 (V3 m ρ) c t y = outR v (pR (eR (scR q k (cumR (lgR f g))))) (ix2 (⟨256 * t.val + (y 0).val, by have := lt1 t; have : (y 0).val < 256 := (y 0).isLt; omega⟩ : Fin 65536) (⟨(y 1).val, (y 1).isLt⟩ : Fin 256)) := by
  have ht := lt1 t
  have hy0 : (y 0).val < 256 := (y 0).isLt
  have hy1 : (y 1).val < 256 := (y 1).isLt
  have hy : y = ix2 (⟨(y 0).val, hy0⟩ : Fin 256) (⟨64 * ((y 1).val / 64) + (y 1).val % 64, by omega⟩ : Fin 256) := by
    funext a
    match a with
    | ⟨0, _⟩ => rfl
    | ⟨1, _⟩ => exact Fin.ext (Nat.div_add_mod _ _).symm
  unfold outsAt1
  rw [(idx1 t).2.2.2.2]
  conv_lhs => rw [hy]
  have hrow : ∀ x : ℕ, 4096 * (t.val / 16) + (256 * (t.val % 16) + x) = 256 * t.val + x := fun x => by omega
  refine (row_eq q k v f g Q K Z hQ hK hZ (⟨t.val / 16, by omega⟩ : Fin 16) (⟨(y 1).val / 64, by omega⟩ : Fin 4) (⟨t.val % 16, by omega⟩ : Fin 16) (⟨(y 0).val, hy0⟩ : Fin 256)
    (⟨(y 1).val % 64, by omega⟩ : Fin 64) (iblk1 (V3 m ρ) c 0 t) (iblk1 (V3 m ρ) c 1 t) (iblk1 (V3 m ρ) c 2 t) (fun x e => ?_) (fun j e => ?_) (fun n e j => ?_)).trans ?_
  · rw [iblk1_0, V3_v24 m ρ c q k v f g h0 h1 h2 h3 h4]
    exact congrArg (fun r => qT (obT q k v) (out0_2 (F := Ideal) (fT f) (gT g)) (ix2 r e)) (Fin.ext (hrow x.val).symm)
  · rw [iblk1_1, V3_v27 m ρ c q k v f g h0 h1 h2 h3 h4]
  · rw [iblk1_2, V3_v30 m ρ c q k v h0 h1 h2]
  · exact congrArg₂ (fun r s => outR v (pR (eR (scR q k (cumR (lgR f g))))) (ix2 r s)) (Fin.ext (hrow (y 0).val)) (Fin.ext (Nat.div_add_mod _ _))

include h0 h1 h2 h3 h4 hQ hK hZ in
/-- The attention's output array is the reference's. -/
theorem final1 : (dat1 (V3 m ρ) c).arrAt 3 cfg1.N = outR v (pR (eR (scR q k (cumR (lgR f g))))) := by
  refine (dat1 (V3 m ρ) c).arrAt_eq_of_covers 3 _ (by decide +kernel) fun t hf y => ?_
  blk_simp
  rw [after1_3, block_eq m ρ c q k v f g h0 h1 h2 h3 h4 Q K Z hQ hK hZ]
  refine congrArg (outR v (pR (eR (scR q k (cumR (lgR f g)))))) (funext fun a => Fin.ext ?_)
  match a with
  | ⟨0, _⟩ => blk_simp [idx1 t]; exact congrArg (· + (y 0).val) (Nat.mul_comm _ _)
  | ⟨1, _⟩ => blk_simp [idx1 t]; rfl
end

section
open Cert.Fox.ReferenceIdeal

/-- Under the precondition the attention's output array is the reference's result. -/
theorem final (m : (ℓ : Loc nD τ sig) → Buf (Elt Ideal) ℓ) (ρ : Dev nD → PrngReg) (c : Dev nD)
    (m' : (ℓ : Loc Cert.ReferenceIdeal.nD Cert.ReferenceIdeal.τ Cert.ReferenceIdeal.sig) → Buf (Elt Ideal) ℓ) [hPre : Cert.Pre_finite.Facts]
    (hpre : Cert.Pre_finite.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun _ => 1#1)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4)) :
    (dat1 (V3 m ρ) c).arrAt 3 cfg1.N = Cert.ReferenceIdeal.Value.res_main_v40 m' c := by
  have hq := Cert.Fox.Finite.real_q _ _ _ _ _ hpre
  have hk := Cert.Fox.Finite.real_k _ _ _ _ _ hpre
  have hz := Cert.Fox.Finite.real_z _ _ _ _ _ hpre
  choose Q hQ using hq
  choose K hK using hk
  choose Z hZ using hz
  have e3 : ∀ i : S16x4096x256.Idx, i = ix3 (i 0) (i 1) (i 2) := fun i => by
    funext a
    match a with
    | ⟨0, _⟩ => rfl
    | ⟨1, _⟩ => rfl
    | ⟨2, _⟩ => rfl
  refine (final1 m ρ c _ _ _ _ _ rfl rfl rfl rfl rfl (fun i => Q (i 0) (i 1) (i 2)) (fun i => K (i 0) (i 1) (i 2)) (fun i => Z (i 0) (i 1) (i 2))
    (fun i => (congrArg _ (e3 i)).trans (hQ (i 0) (i 1) (i 2))) (fun i => (congrArg _ (e3 i)).trans (hK (i 0) (i 1) (i 2))) (fun b s h => hZ b s h)).trans ?_
  refine Eq.trans ?_ (res_eq m' c).symm
  rw [h0, h1, h2, h3, h4]
end

end Cert.Fox.KernelIdeal

end
-- ==== Proof.FfnBody.lean ====
/-
  The feed-forward kernel's body run once at a symbolic grid point: from the ten input blocks, the two halo buffers at
  any contents, to the output block at the pieces the run finds.
-/
module

public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

set_option maxRecDepth 16384

noncomputable section

namespace Cert.Ffn.KernelIdeal

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄G" => MT nD τ sig Unit (Elt F) ℕ (UR sig nD τ) ℕ

set_option maxHeartbeats 0 in
/-- The body's run: the pieces it leaves in the output block and in the two halo buffers, with the proof that it leaves them. -/
@[irreducible] def ffnRun (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x5632 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S520x256 .f32) (harg12 : arg12.IsWhole) (arg13 : Memref sig .tc .vmem S8x2816 .f32) (harg13 : arg13.IsWhole)
    (x0 : Vec F S512x1024 .f32) (x1 : Vec F S1x1024 .f32) (x2 : Vec F S1x1x1024 .f32) (x3 : Vec F S1x1x1024 .f32) (x4 : Vec F S1024x5632 .bf16) (x5 : Vec F S3x2816 .f32) (x6 : Vec F S1x2816 .f32) (x7 : Vec F S2816x1024 .bf16) (x8 : Vec F S1x1024 .f32) (x9 : Vec F S1x1x1024 .f32) (fs : BufTy.Contents (Elt F) arg12.view.ty) (tl : Vec F S8x2816 .f32) :
    Σ' (L10 : List (View.Piece (Elt F) S512x1024 .f32)) (LS0 : List (View.Piece (Elt F) S520x256 .f32)), { LS1 : List (View.Piece (Elt F) S8x2816 .f32) //
      ∀ (E : Set ℕ) (K : PUnit → sProp 𝕄G),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (arg12.view.loc (c : Thread nD τ) ↦[arg12.view.set]{fullShare} fs) ∗ owns (c : Thread nD τ) arg13 fullShare tl
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_conv_ffn i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_conv_ffn_eq_skeleton]; unfold cc0_conv_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, HS0, ⟨%f12, %hf12, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]; · iexists _; iexact HS0
    iexists _; iexact HS1

end Cert.Ffn.KernelIdeal

end
-- ==== Proof.FfnLoads.lean ====
/-
  What the feed-forward kernel's body leaves in its output block and in the buffer of the last rows, in closed form over
  the ten input blocks and the rows the tile before left: chunk after chunk of hidden channels.
-/
module

public import proofs.«01_k».proof.Proof.FfnBody
public import proofs.«01_k».proof.Proof.Cells
public import Idealize.ShloMosaic.Lib.WritesUnit

@[expose] public section

set_option maxRecDepth 16384

noncomputable section

namespace Cert.Ffn.KernelIdeal

open Cert.Kernel2Ideal Cert.Kernel2Ideal.Gen Cert.Fox

open Idealize.ShloMosaic Idealize.ShloMosaic.TcCoe Idealize.ShloMosaic.Tactic

variable {F : FTy → Type} [FloatOps F]

/-! ## The closed form -/

/-- 256 columns of the up-projection's weights from column `o`. -/
def wcol (x4 : Vec F S1024x5632 .bf16) (o : ℕ) : Vec F S1024x256 .bf16 := fun y => x4 (ix 1024 5632 (0 + (y 0).val) (o + (y 1).val))
/-- Row `r` of the convolution's weights, 256 channels from `o`. -/
def crow (x5 : Vec F S3x2816 .f32) (r o : ℕ) : Vec F S1x256 .f32 := fun y => x5 (ix 3 2816 (r + (y 0).val) (o + (y 1).val))
/-- 256 channels of the convolution's bias. -/
def bcol (x6 : Vec F S1x2816 .f32) (o : ℕ) : Vec F S1x256 .f32 := fun y => x6 (ix 1 2816 (0 + (y 0).val) (o + (y 1).val))
/-- 256 rows of the down-projection's weights. -/
def drow (x7 : Vec F S2816x1024 .bf16) (o : ℕ) : Vec F S256x1024 .bf16 := fun y => x7 (ix 2816 1024 (o + (y 0).val) (0 + (y 1).val))
/-- 256 channels of the rows the tile before left. -/
def tcol (tl : Vec F S8x2816 .f32) (o : ℕ) : Vec F S8x256 .f32 := fun y => tl (ix 8 2816 (0 + (y 0).val) (o + (y 1).val))
/-- 256 rows of `A` under the eight rows `H`, from row `o` on. -/
def halo (H : Vec F S8x256 .f32) (A : Vec F S512x256 .f32) (o : ℕ) : Vec F S512x256 .f32 := fun y =>
  if o + (y 0).val < 8 then H (ix 8 256 (o + (y 0).val) (y 1).val) else A (ix 512 256 (o + (y 0).val - 8) (y 1).val)
/-- A chunk's step of the output's sum. -/
def step (b : BitVec 1) (hb : FVec F S512x1024 .bf16) (x4 : Vec F S1024x5632 .bf16) (x5 : Vec F S3x2816 .f32) (x6 : Vec F S1x2816 .f32) (x7 : Vec F S2816x1024 .bf16)
    (tl : Vec F S8x2816 .f32) (o o2 : ℕ) (acc : FVec F S512x1024 .f32) : FVec F S512x1024 .f32 :=
  k0_pay90 acc (k0_pay85 hb (wcol x4 o)) (k0_pay86 hb (wcol x4 o2))
    (crow x5 0 o) (halo (k0_pay87 b (tcol tl o)) (k0_pay79 (k0_pay85 hb (wcol x4 o))) 6)
    (crow x5 1 o) (halo (k0_pay87 b (tcol tl o)) (k0_pay79 (k0_pay85 hb (wcol x4 o))) 7)
    (crow x5 2 o) (bcol x6 o) (drow x7 o)
/-- Whether the tile is the first of its sequence, as the kernel's bit. -/
def first (t : ℕ) : BitVec 1 := if t % 8 = 0 then 1#1 else 0#1
/-- The output's sum before chunk `k`. -/
def acc (t : ℕ) (hb : FVec F S512x1024 .bf16) (x4 : Vec F S1024x5632 .bf16) (x5 : Vec F S3x2816 .f32) (x6 : Vec F S1x2816 .f32) (x7 : Vec F S2816x1024 .bf16)
    (tl : Vec F S8x2816 .f32) : ℕ → FVec F S512x1024 .f32
  | 0 => k0_pay4
  | k + 1 => step (first t) hb x4 x5 x6 x7 tl (256 * k) (2816 + 256 * k) (acc t hb x4 x5 x6 x7 tl k)
theorem acc_eleven (t : ℕ) (hb : FVec F S512x1024 .bf16) (x4 : Vec F S1024x5632 .bf16) (x5 : Vec F S3x2816 .f32) (x6 : Vec F S1x2816 .f32) (x7 : Vec F S2816x1024 .bf16)
    (tl : Vec F S8x2816 .f32) : acc t hb x4 x5 x6 x7 tl 11 = step (first t) hb x4 x5 x6 x7 tl 2560 5376 (step (first t) hb x4 x5 x6 x7 tl 2304 5120 (step (first t) hb x4 x5 x6 x7 tl 2048 4864 (step (first t) hb x4 x5 x6 x7 tl 1792 4608 (step (first t) hb x4 x5 x6 x7 tl 1536 4352 (step (first t) hb x4 x5 x6 x7 tl 1280 4096 (step (first t) hb x4 x5 x6 x7 tl 1024 3840 (step (first t) hb x4 x5 x6 x7 tl 768 3584 (step (first t) hb x4 x5 x6 x7 tl 512 3328 (step (first t) hb x4 x5 x6 x7 tl 256 3072 (step (first t) hb x4 x5 x6 x7 tl 0 2816 (k0_pay4))))))))))) := rfl
/-- The output block of tile `t`. -/
def ffnOut (t : ℕ) (x0 : Vec F S512x1024 .f32) (x1 : Vec F S1x1024 .f32) (x2 : Vec F S1x1x1024 .f32) (x3 : Vec F S1x1x1024 .f32) (x4 : Vec F S1024x5632 .bf16) (x5 : Vec F S3x2816 .f32) (x6 : Vec F S1x2816 .f32) (x7 : Vec F S2816x1024 .bf16) (x8 : Vec F S1x1024 .f32) (x9 : Vec F S1x1x1024 .f32) (tl : Vec F S8x2816 .f32) : FVec F S512x1024 .f32 :=
  k0_pay1 (k0_pay2 x0) (acc t (k0_pay3 x0 x1 x2 x3) x4 x5 x6 x7 tl 11) (k0_pay91 x9) x8
/-- The rows a tile leaves. -/
def ffnTail (hb : FVec F S512x1024 .bf16) (x4 : Vec F S1024x5632 .bf16) : Vec F S8x2816 .f32 := fun y =>
  k0_pay80 (k0_pay85 hb (wcol x4 (256 * ((y 1).val / 256)))) (ix 8 256 (y 0).val ((y 1).val % 256))

/-! ## The chunks' payloads are one chunk's -/

section Same
variable (hb : FVec F S512x1024 .bf16) (w : Vec F S1024x256 .bf16) (ac : FVec F S512x1024 .f32) (a g h0 h1 : FVec F S512x256 .f32)
  (w0 w1 w2 cb : Vec F S1x256 .f32) (wd : Vec F S256x1024 .bf16) (b : BitVec 1) (T : Vec F S8x256 .f32)

theorem a5 : k0_pay5 hb w = k0_pay85 hb w := rfl
theorem a13 : k0_pay13 hb w = k0_pay85 hb w := rfl
theorem a20 : k0_pay20 hb w = k0_pay85 hb w := rfl
theorem a27 : k0_pay27 hb w = k0_pay85 hb w := rfl
theorem a36 : k0_pay36 hb w = k0_pay85 hb w := rfl
theorem a43 : k0_pay43 hb w = k0_pay85 hb w := rfl
theorem a53 : k0_pay53 hb w = k0_pay85 hb w := rfl
theorem a60 : k0_pay60 hb w = k0_pay85 hb w := rfl
theorem a69 : k0_pay69 hb w = k0_pay85 hb w := rfl
theorem a75 : k0_pay75 hb w = k0_pay85 hb w := rfl
theorem g6 : k0_pay6 hb w = k0_pay86 hb w := rfl
theorem g14 : k0_pay14 hb w = k0_pay86 hb w := rfl
theorem g21 : k0_pay21 hb w = k0_pay86 hb w := rfl
theorem g28 : k0_pay28 hb w = k0_pay86 hb w := rfl
theorem g37 : k0_pay37 hb w = k0_pay86 hb w := rfl
theorem g44 : k0_pay44 hb w = k0_pay86 hb w := rfl
theorem g54 : k0_pay54 hb w = k0_pay86 hb w := rfl
theorem g61 : k0_pay61 hb w = k0_pay86 hb w := rfl
theorem g70 : k0_pay70 hb w = k0_pay86 hb w := rfl
theorem g77 : k0_pay77 hb (k0_pay76 w) = k0_pay86 hb w := rfl
theorem s8 : k0_pay8 hb w = k0_pay79 (k0_pay85 hb w) := rfl
theorem s23 : k0_pay23 hb w = k0_pay79 (k0_pay85 hb w) := rfl
theorem s39 : k0_pay39 hb w = k0_pay79 (k0_pay85 hb w) := rfl
theorem s56 : k0_pay56 hb w = k0_pay79 (k0_pay85 hb w) := rfl
theorem s72 : k0_pay72 hb w = k0_pay79 (k0_pay85 hb w) := rfl
theorem s88 : k0_pay88 hb w = k0_pay79 (k0_pay85 hb w) := rfl
theorem s16 : k0_pay16 a = k0_pay79 a := rfl
theorem s31 : k0_pay31 a = k0_pay79 a := rfl
theorem s47 : k0_pay47 a = k0_pay79 a := rfl
theorem s63 : k0_pay63 a = k0_pay79 a := rfl
theorem l9 : k0_pay9 hb w = k0_pay80 (k0_pay85 hb w) := rfl
theorem l24 : k0_pay24 hb w = k0_pay80 (k0_pay85 hb w) := rfl
theorem l40 : k0_pay40 hb w = k0_pay80 (k0_pay85 hb w) := rfl
theorem l57 : k0_pay57 hb w = k0_pay80 (k0_pay85 hb w) := rfl
theorem l73 : k0_pay73 hb w = k0_pay80 (k0_pay85 hb w) := rfl
theorem l89 : k0_pay89 hb w = k0_pay80 (k0_pay85 hb w) := rfl
theorem l17 : k0_pay17 a = k0_pay80 a := rfl
theorem l32 : k0_pay32 a = k0_pay80 a := rfl
theorem l48 : k0_pay48 a = k0_pay80 a := rfl
theorem l64 : k0_pay64 a = k0_pay80 a := rfl
theorem h7 : k0_pay7 b T = k0_pay87 b T := rfl
theorem h15 : k0_pay15 b T = k0_pay87 b T := rfl
theorem h22 : k0_pay22 b T = k0_pay87 b T := rfl
theorem h38 : k0_pay38 b T = k0_pay87 b T := rfl
theorem h55 : k0_pay55 b T = k0_pay87 b T := rfl
theorem h62 : k0_pay62 b T = k0_pay87 b T := rfl
theorem h71 : k0_pay71 b T = k0_pay87 b T := rfl
theorem h78 : k0_pay78 b T = k0_pay87 b T := rfl
theorem h30 : k0_pay30 (k0_pay29 b T) = k0_pay87 b T := rfl
theorem h46 : k0_pay46 (k0_pay45 b T) = k0_pay87 b T := rfl
theorem c0 : k0_pay12 ac a g (k0_pay10 w0 h0 w1 h1) (k0_pay11 w2) cb wd = k0_pay90 ac a g w0 h0 w1 h1 w2 cb wd := rfl
theorem c1 : k0_pay19 ac (k0_pay18 a g w0 h0 w1 h1 w2 cb) wd = k0_pay90 ac a g w0 h0 w1 h1 w2 cb wd := rfl
theorem c2 : k0_pay26 ac a g (k0_pay25 w0 h0 w1 h1) w2 cb wd = k0_pay90 ac a g w0 h0 w1 h1 w2 cb wd := rfl
theorem c3 : k0_pay35 ac g (k0_pay33 a w0 h0 w1 h1 w2 cb) (k0_pay34 a w0 h0 w1 h1 w2 cb) wd = k0_pay90 ac a g w0 h0 w1 h1 w2 cb wd := rfl
theorem c4 : k0_pay42 ac a g (k0_pay41 w0 h0) w1 h1 w2 cb wd = k0_pay90 ac a g w0 h0 w1 h1 w2 cb wd := rfl
theorem c5 : k0_pay52 ac g (k0_pay49 a w0 h0 w1 h1 w2 cb) (k0_pay50 a w0 h0 w1 h1 w2 cb) k0_pay51 wd = k0_pay90 ac a g w0 h0 w1 h1 w2 cb wd := rfl
theorem c6 : k0_pay59 ac a g (k0_pay58 w0 h0) w1 h1 w2 cb wd = k0_pay90 ac a g w0 h0 w1 h1 w2 cb wd := rfl
theorem c7 : k0_pay68 ac g (k0_pay65 a w0 h0 w1 h1 w2 cb) (k0_pay66 a w0 h0 w1 h1 w2 cb) k0_pay67 wd = k0_pay90 ac a g w0 h0 w1 h1 w2 cb wd := rfl
theorem c8 : k0_pay74 ac a g w0 h0 w1 h1 w2 cb wd = k0_pay90 ac a g w0 h0 w1 h1 w2 cb wd := rfl
theorem c9 : k0_pay84 ac g (k0_pay81 a w0 h0 w1 h1 w2 cb) (k0_pay82 a w0 h0 w1 h1 w2 cb) k0_pay83 wd = k0_pay90 ac a g w0 h0 w1 h1 w2 cb wd := rfl
end Same

/-! ## The loads -/

section Loads
variable {sp : Space} {e : EltTy}

/-- A load of a whole buffer. -/
theorem readAt_all {s : Shape} (v : View sig .tc sp s e) (f : v.ty.Contents (Elt F)) {off : Fin s.rank → ℕ} (hoff : ∀ a, off a = 0)
    (inb : ∀ a, off a + s.size a ≤ s.size a) : v.readAt (Elt F) (Rect.unit (s := s) off s.size inb).toLoadRect f = v.read (Elt F) f := by
  funext y
  refine congrArg (v.read (Elt F) f) (funext fun a => Fin.ext ?_)
  show off a + 1 * (y a).val = (y a).val
  rw [hoff a, Nat.zero_add, Nat.one_mul]

/-- A load of 512 rows from row `o` of the rows and the eight before them. -/
theorem halo_read (v : View sig .tc .vmem S520x256 .f32) (H : Vec F S8x256 .f32) (A : Vec F S512x256 .f32) (L : List (View.Piece (Elt F) S520x256 .f32))
    (o : ℕ) (ho : o ≤ 8) (inb : ∀ a, (![o, 0] : Fin 2 → ℕ) a + S512x256.size a ≤ S520x256.size a) :
    v.readCov (Val := Elt F) ((⟨Rect.unit (s := S520x256) ![8, 0] S512x256.size inb_S520x256_S512x256_8_0, A⟩ : View.Piece (Elt F) S520x256 .f32) :: ⟨Rect.unit (s := S520x256) ![0, 0] S8x256.size inb_S520x256_S8x256_0_0, H⟩ :: L)
      (Rect.unit (s := S520x256) ![o, 0] S512x256.size inb).toLoadRect = halo H A o := by
  funext y
  have hy0 : (y 0).val < 512 := (y 0).isLt
  have hy1 : (y 1).val < 256 := (y 1).isLt
  unfold View.readCov halo
  refine (congrFun (readAt_ix (n := 520) (m := 256) (p := 512) (q := 256) v _ rfl inb) y).trans ?_
  have e0 : ((ix 520 256 (o + (y 0).val) (0 + (y 1).val)) 0).val = o + (y 0).val := Nat.mod_eq_of_lt (by omega)
  have e1 : ((ix 520 256 (o + (y 0).val) (0 + (y 1).val)) 1).val = 0 + (y 1).val := Nat.mod_eq_of_lt (by omega)
  by_cases h : o + (y 0).val < 8
  · rw [if_pos h, View.read_writes_cons_rows_of_not_mem (d := ![520, 256]) (o := 8) (W := 512) v _ inb_S520x256_S512x256_8_0 A _ _ rfl rfl (by rw [e0]; omega)]
    refine View.read_writes_cons_rows_of_mem (d := ![520, 256]) (o := 0) v _ inb_S520x256_S8x256_0_0 H L _ (ix 8 256 (o + (y 0).val) (y 1).val) rfl ?_ ?_
    · rw [e0]; exact (Nat.zero_add _).symm ▸ (Nat.mod_eq_of_lt h).symm
    · rw [e1, Nat.zero_add]; exact (Nat.mod_eq_of_lt hy1).symm
  · rw [if_neg h]
    refine View.read_writes_cons_rows_of_mem (d := ![520, 256]) (o := 8) v _ inb_S520x256_S512x256_8_0 A _ _ (ix 512 256 (o + (y 0).val - 8) (y 1).val) rfl ?_ ?_
    · rw [e0]
      have : ((ix 512 256 (o + (y 0).val - 8) (y 1).val) 0).val = o + (y 0).val - 8 := Nat.mod_eq_of_lt (by omega)
      rw [this]; omega
    · rw [e1, Nat.zero_add]; exact (Nat.mod_eq_of_lt hy1).symm
end Loads

/-! ## The whole body -/

section Body
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x5632 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S520x256 .f32) (harg12 : arg12.IsWhole) (arg13 : Memref sig .tc .vmem S8x2816 .f32) (harg13 : arg13.IsWhole)
    (x0 : Vec F S512x1024 .f32) (x1 : Vec F S1x1024 .f32) (x2 : Vec F S1x1x1024 .f32) (x3 : Vec F S1x1x1024 .f32) (x4 : Vec F S1024x5632 .bf16) (x5 : Vec F S3x2816 .f32) (x6 : Vec F S1x2816 .f32) (x7 : Vec F S2816x1024 .bf16) (x8 : Vec F S1x1024 .f32) (x9 : Vec F S1x1x1024 .f32) (fs : BufTy.Contents (Elt F) arg12.view.ty) (tl : Vec F S8x2816 .f32)

theorem first_eq : ffnRun.sl.v37 i = first (i 0).val := by
  have h : ∀ j : Fin 128, ffnRun.sl.v37 (fun a => match a with | 0 => j) = first j.val := by decide +kernel
  have hi : i = (fun a => match a with | 0 => i 0) := funext fun a => match a with | 0 => rfl
  rw [hi]; exact h (i 0)

theorem wcol_read {o : ℕ} (inb : ∀ a, (![0, o] : Fin 2 → ℕ) a + (![1024, 256] : Fin 2 → ℕ) a ≤ S1024x5632.size a) :
    arg5.view.readAt (Elt F) (Rect.unit (s := S1024x5632) ![0, o] ![1024, 256] inb).toLoadRect (harg5.unread x4) = wcol x4 o :=
  (readAt_ix (n := 1024) (m := 5632) (p := 1024) (q := 256) arg5.view (harg5.unread x4) rfl inb).trans (by rw [harg5.read_unread]; rfl)
theorem crow_read {r o : ℕ} (inb : ∀ a, (![r, o] : Fin 2 → ℕ) a + (![1, 256] : Fin 2 → ℕ) a ≤ S3x2816.size a) :
    arg6.view.readAt (Elt F) (Rect.unit (s := S3x2816) ![r, o] ![1, 256] inb).toLoadRect (harg6.unread x5) = crow x5 r o :=
  (readAt_ix (n := 3) (m := 2816) (p := 1) (q := 256) arg6.view (harg6.unread x5) rfl inb).trans (by rw [harg6.read_unread]; rfl)
theorem bcol_read {o : ℕ} (inb : ∀ a, (![0, o] : Fin 2 → ℕ) a + (![1, 256] : Fin 2 → ℕ) a ≤ S1x2816.size a) :
    arg7.view.readAt (Elt F) (Rect.unit (s := S1x2816) ![0, o] ![1, 256] inb).toLoadRect (harg7.unread x6) = bcol x6 o :=
  (readAt_ix (n := 1) (m := 2816) (p := 1) (q := 256) arg7.view (harg7.unread x6) rfl inb).trans (by rw [harg7.read_unread]; rfl)
theorem drow_read {o : ℕ} (inb : ∀ a, (![o, 0] : Fin 2 → ℕ) a + (![256, 1024] : Fin 2 → ℕ) a ≤ S2816x1024.size a) :
    arg8.view.readAt (Elt F) (Rect.unit (s := S2816x1024) ![o, 0] ![256, 1024] inb).toLoadRect (harg8.unread x7) = drow x7 o :=
  (readAt_ix (n := 2816) (m := 1024) (p := 256) (q := 1024) arg8.view (harg8.unread x7) rfl inb).trans (by rw [harg8.read_unread]; rfl)
theorem tcol_read {o : ℕ} (inb : ∀ a, (![0, o] : Fin 2 → ℕ) a + (![8, 256] : Fin 2 → ℕ) a ≤ S8x2816.size a) :
    arg13.view.readAt (Elt F) (Rect.unit (s := S8x2816) ![0, o] ![8, 256] inb).toLoadRect (harg13.unread tl) = tcol tl o :=
  (readAt_ix (n := 8) (m := 2816) (p := 8) (q := 256) arg13.view (harg13.unread tl) rfl inb).trans (by rw [harg13.read_unread]; rfl)
theorem x0_read : arg1.view.readAt (Elt F) (Rect.unit (s := S512x1024) ![0, 0] ![512, 1024] inb_S512x1024_S512x1024_0_0).toLoadRect (harg1.unread x0) = x0 :=
  (readAt_all arg1.view (harg1.unread x0) (fun a => match a with | ⟨0, _⟩ => rfl | ⟨1, _⟩ => rfl) _).trans (harg1.read_unread _)
theorem x1_read : arg2.view.readAt (Elt F) (Rect.unit (s := S1x1024) ![0, 0] ![1, 1024] inb_S1x1024_S1x1024_0_0).toLoadRect (harg2.unread x1) = x1 :=
  (readAt_all arg2.view (harg2.unread x1) (fun a => match a with | ⟨0, _⟩ => rfl | ⟨1, _⟩ => rfl) _).trans (harg2.read_unread _)
theorem x2_read : arg3.view.readAt (Elt F) (Rect.unit (s := S1x1x1024) ![0, 0, 0] ![1, 1, 1024] inb_S1x1x1024_S1x1x1024_0_0_0).toLoadRect (harg3.unread x2) = x2 :=
  (readAt_all arg3.view (harg3.unread x2) (fun a => match a with | ⟨0, _⟩ => rfl | ⟨1, _⟩ => rfl | ⟨2, _⟩ => rfl) _).trans (harg3.read_unread _)
theorem x3_read : arg4.view.readAt (Elt F) (Rect.unit (s := S1x1x1024) ![0, 0, 0] ![1, 1, 1024] inb_S1x1x1024_S1x1x1024_0_0_0).toLoadRect (harg4.unread x3) = x3 :=
  (readAt_all arg4.view (harg4.unread x3) (fun a => match a with | ⟨0, _⟩ => rfl | ⟨1, _⟩ => rfl | ⟨2, _⟩ => rfl) _).trans (harg4.read_unread _)
theorem x8_read : arg9.view.readAt (Elt F) (Rect.unit (s := S1x1024) ![0, 0] ![1, 1024] inb_S1x1024_S1x1024_0_0).toLoadRect (harg9.unread x8) = x8 :=
  (readAt_all arg9.view (harg9.unread x8) (fun a => match a with | ⟨0, _⟩ => rfl | ⟨1, _⟩ => rfl) _).trans (harg9.read_unread _)
theorem x9_read : arg10.view.readAt (Elt F) (Rect.unit (s := S1x1x1024) ![0, 0, 0] ![1, 1, 1024] inb_S1x1x1024_S1x1x1024_0_0_0).toLoadRect (harg10.unread x9) = x9 :=
  (readAt_all arg10.view (harg10.unread x9) (fun a => match a with | ⟨0, _⟩ => rfl | ⟨1, _⟩ => rfl | ⟨2, _⟩ => rfl) _).trans (harg10.read_unread _)

end Body

end Cert.Ffn.KernelIdeal

end
-- ==== Proof.FfnClosed.lean ====
/-
  The feed-forward kernel's body leaves its tile's last eight rows in the buffer the next tile reads.
-/
module

public import proofs.«01_k».proof.Proof.FfnLoads
public import proofs.«01_k».proof.Proof.Cells
public import Idealize.ShloMosaic.Lib.WritesUnit

@[expose] public section

set_option maxRecDepth 16384

noncomputable section

namespace Cert.Ffn.KernelIdeal

open Cert.Kernel2Ideal Cert.Kernel2Ideal.Gen Cert.Fox

open Idealize.ShloMosaic Idealize.ShloMosaic.TcCoe Idealize.ShloMosaic.Tactic

variable {F : FTy → Type} [FloatOps F]

section Body
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x5632 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S520x256 .f32) (harg12 : arg12.IsWhole) (arg13 : Memref sig .tc .vmem S8x2816 .f32) (harg13 : arg13.IsWhole)
    (x0 : Vec F S512x1024 .f32) (x1 : Vec F S1x1024 .f32) (x2 : Vec F S1x1x1024 .f32) (x3 : Vec F S1x1x1024 .f32) (x4 : Vec F S1024x5632 .bf16) (x5 : Vec F S3x2816 .f32) (x6 : Vec F S1x2816 .f32) (x7 : Vec F S2816x1024 .bf16) (x8 : Vec F S1x1024 .f32) (x9 : Vec F S1x1x1024 .f32) (fs : BufTy.Contents (Elt F) arg12.view.ty) (tl : Vec F S8x2816 .f32)

set_option maxHeartbeats 0 in
/-- The rows the body leaves, piece by piece. -/
theorem ffnRun_tail : (ffnRun (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 fs tl).2.2.1
    = [⟨Rect.unit (s := S8x2816) ![0, 2560] S8x256.size inb_S8x2816_S8x256_0_2560, k0_pay80 (k0_pay85 (k0_pay3 x0 x1 x2 x3) (wcol x4 2560))⟩,
      ⟨Rect.unit (s := S8x2816) ![0, 2304] S8x256.size inb_S8x2816_S8x256_0_2304, k0_pay80 (k0_pay85 (k0_pay3 x0 x1 x2 x3) (wcol x4 2304))⟩,
      ⟨Rect.unit (s := S8x2816) ![0, 2048] S8x256.size inb_S8x2816_S8x256_0_2048, k0_pay80 (k0_pay85 (k0_pay3 x0 x1 x2 x3) (wcol x4 2048))⟩,
      ⟨Rect.unit (s := S8x2816) ![0, 1792] S8x256.size inb_S8x2816_S8x256_0_1792, k0_pay80 (k0_pay85 (k0_pay3 x0 x1 x2 x3) (wcol x4 1792))⟩,
      ⟨Rect.unit (s := S8x2816) ![0, 1536] S8x256.size inb_S8x2816_S8x256_0_1536, k0_pay80 (k0_pay85 (k0_pay3 x0 x1 x2 x3) (wcol x4 1536))⟩,
      ⟨Rect.unit (s := S8x2816) ![0, 1280] S8x256.size inb_S8x2816_S8x256_0_1280, k0_pay80 (k0_pay85 (k0_pay3 x0 x1 x2 x3) (wcol x4 1280))⟩,
      ⟨Rect.unit (s := S8x2816) ![0, 1024] S8x256.size inb_S8x2816_S8x256_0_1024, k0_pay80 (k0_pay85 (k0_pay3 x0 x1 x2 x3) (wcol x4 1024))⟩,
      ⟨Rect.unit (s := S8x2816) ![0, 768] S8x256.size inb_S8x2816_S8x256_0_768, k0_pay80 (k0_pay85 (k0_pay3 x0 x1 x2 x3) (wcol x4 768))⟩,
      ⟨Rect.unit (s := S8x2816) ![0, 512] S8x256.size inb_S8x2816_S8x256_0_512, k0_pay80 (k0_pay85 (k0_pay3 x0 x1 x2 x3) (wcol x4 512))⟩,
      ⟨Rect.unit (s := S8x2816) ![0, 256] S8x256.size inb_S8x2816_S8x256_0_256, k0_pay80 (k0_pay85 (k0_pay3 x0 x1 x2 x3) (wcol x4 256))⟩,
      ⟨Rect.unit (s := S8x2816) ![0, 0] S8x256.size inb_S8x2816_S8x256_0_0, k0_pay80 (k0_pay85 (k0_pay3 x0 x1 x2 x3) (wcol x4 0))⟩] := by
  unfold ffnRun; dsimp only
  unfold ffnRun.sl.r_45 ffnRun.sl.r_36 ffnRun.sl.r_26 ffnRun.sl.r_15 ffnRun.sl.r_7
  unfold ffnRun.sl.r_1
  simp only [wcol_read, crow_read, bcol_read, drow_read, tcol_read, x0_read, x1_read, x2_read, x3_read, x8_read, x9_read, first_eq, a5, a13, a20, a27, a36, a43, a53, a60, a69, a75, g6, g14, g21, g28, g37, g44, g54, g61, g70, g77, s8, s23, s39, s56, s72, s88, s16, s31, s47, s63, h7, h15, h22, h38, h55, h62, h71, h78, h30, h46, c0, c1, c2, c3, c4, c5, c6, c7, c8, c9, l9, l24, l40, l57, l73, l89, l17, l32, l48, l64]

/-- A piece of the rows left agrees with the whole of them. -/
theorem tail_agree (hb : FVec F S512x1024 .bf16) (k : ℕ) (inb : ∀ a, (![0, 256 * k] : Fin 2 → ℕ) a + S8x256.size a ≤ S8x2816.size a)
    (x : (Rect.unit (s := S8x2816) ![0, 256 * k] S8x256.size inb).shape.Idx) :
    k0_pay80 (k0_pay85 hb (wcol x4 (256 * k))) x = ffnTail hb x4 ((Rect.unit (s := S8x2816) ![0, 256 * k] S8x256.size inb).emb x) := by
  have hx0 : (x 0).val < 8 := (x 0).isLt
  have hx1 : (x 1).val < 256 := (x 1).isLt
  obtain ⟨e0, e1⟩ := emb_ix (n := 8) (m := 2816) (p := 8) (q := 256) rfl inb x
  have b0 : (256 * k + (x 1).val) / 256 = k := by omega
  have b1 : (256 * k + (x 1).val) % 256 = (x 1).val := by omega
  unfold ffnTail
  rw [e0, e1, b0, b1]
  refine congrArg (k0_pay80 (k0_pay85 hb (wcol x4 (256 * k)))) (funext fun a => Fin.ext ?_)
  match a with
  | ⟨0, _⟩ => show (x 0).val = (0 + (x 0).val) % 8; omega
  | ⟨1, _⟩ => exact (Nat.mod_eq_of_lt hx1).symm

/-- The rows the body leaves: the tile's last eight. -/
theorem tail_read (f : BufTy.Contents (Elt F) arg13.view.ty) :
    arg13.view.read (Elt F) (arg13.view.writes (Elt F) f (ffnRun (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 fs tl).2.2.1) = ffnTail (k0_pay3 x0 x1 x2 x3) x4 := by
  rw [ffnRun_tail]
  funext y
  have y0 : (y 0).val < 8 := (y 0).isLt
  have y1 : (y 1).val < 2816 := (y 1).isLt
  refine View.read_writes_apply_of_pieces arg13.view f (ffnTail (k0_pay3 x0 x1 x2 x3) x4) _ ?_ y ?_
  · intro p hp
    rcases List.mem_cons.mp hp with rfl | hp
    · exact fun x => tail_agree x4 (k0_pay3 x0 x1 x2 x3) 10 inb_S8x2816_S8x256_0_2560 x
    rcases List.mem_cons.mp hp with rfl | hp
    · exact fun x => tail_agree x4 (k0_pay3 x0 x1 x2 x3) 9 inb_S8x2816_S8x256_0_2304 x
    rcases List.mem_cons.mp hp with rfl | hp
    · exact fun x => tail_agree x4 (k0_pay3 x0 x1 x2 x3) 8 inb_S8x2816_S8x256_0_2048 x
    rcases List.mem_cons.mp hp with rfl | hp
    · exact fun x => tail_agree x4 (k0_pay3 x0 x1 x2 x3) 7 inb_S8x2816_S8x256_0_1792 x
    rcases List.mem_cons.mp hp with rfl | hp
    · exact fun x => tail_agree x4 (k0_pay3 x0 x1 x2 x3) 6 inb_S8x2816_S8x256_0_1536 x
    rcases List.mem_cons.mp hp with rfl | hp
    · exact fun x => tail_agree x4 (k0_pay3 x0 x1 x2 x3) 5 inb_S8x2816_S8x256_0_1280 x
    rcases List.mem_cons.mp hp with rfl | hp
    · exact fun x => tail_agree x4 (k0_pay3 x0 x1 x2 x3) 4 inb_S8x2816_S8x256_0_1024 x
    rcases List.mem_cons.mp hp with rfl | hp
    · exact fun x => tail_agree x4 (k0_pay3 x0 x1 x2 x3) 3 inb_S8x2816_S8x256_0_768 x
    rcases List.mem_cons.mp hp with rfl | hp
    · exact fun x => tail_agree x4 (k0_pay3 x0 x1 x2 x3) 2 inb_S8x2816_S8x256_0_512 x
    rcases List.mem_cons.mp hp with rfl | hp
    · exact fun x => tail_agree x4 (k0_pay3 x0 x1 x2 x3) 1 inb_S8x2816_S8x256_0_256 x
    rcases List.mem_cons.mp hp with rfl | hp
    · exact fun x => tail_agree x4 (k0_pay3 x0 x1 x2 x3) 0 inb_S8x2816_S8x256_0_0 x
    exact absurd hp List.not_mem_nil
  · rcases (by omega : (0 ≤ (y 1).val ∧ (y 1).val < 0 + 256) ∨ (256 ≤ (y 1).val ∧ (y 1).val < 256 + 256) ∨ (512 ≤ (y 1).val ∧ (y 1).val < 512 + 256) ∨ (768 ≤ (y 1).val ∧ (y 1).val < 768 + 256) ∨ (1024 ≤ (y 1).val ∧ (y 1).val < 1024 + 256) ∨ (1280 ≤ (y 1).val ∧ (y 1).val < 1280 + 256) ∨ (1536 ≤ (y 1).val ∧ (y 1).val < 1536 + 256) ∨ (1792 ≤ (y 1).val ∧ (y 1).val < 1792 + 256) ∨ (2048 ≤ (y 1).val ∧ (y 1).val < 2048 + 256) ∨ (2304 ≤ (y 1).val ∧ (y 1).val < 2304 + 256) ∨ (2560 ≤ (y 1).val ∧ (y 1).val < 2560 + 256)) with h | h | h | h | h | h | h | h | h | h | h
    · exact ⟨_, .tail _ (.tail _ (.tail _ (.tail _ (.tail _ (.tail _ (.tail _ (.tail _ (.tail _ (.tail _ (.head _)))))))))), mem_rect_ix (p := 8) (q := 256) rfl inb_S8x2816_S8x256_0_0 y (by omega) (by omega) h.1 h.2⟩
    · exact ⟨_, .tail _ (.tail _ (.tail _ (.tail _ (.tail _ (.tail _ (.tail _ (.tail _ (.tail _ (.head _))))))))), mem_rect_ix (p := 8) (q := 256) rfl inb_S8x2816_S8x256_0_256 y (by omega) (by omega) h.1 h.2⟩
    · exact ⟨_, .tail _ (.tail _ (.tail _ (.tail _ (.tail _ (.tail _ (.tail _ (.tail _ (.head _)))))))), mem_rect_ix (p := 8) (q := 256) rfl inb_S8x2816_S8x256_0_512 y (by omega) (by omega) h.1 h.2⟩
    · exact ⟨_, .tail _ (.tail _ (.tail _ (.tail _ (.tail _ (.tail _ (.tail _ (.head _))))))), mem_rect_ix (p := 8) (q := 256) rfl inb_S8x2816_S8x256_0_768 y (by omega) (by omega) h.1 h.2⟩
    · exact ⟨_, .tail _ (.tail _ (.tail _ (.tail _ (.tail _ (.tail _ (.head _)))))), mem_rect_ix (p := 8) (q := 256) rfl inb_S8x2816_S8x256_0_1024 y (by omega) (by omega) h.1 h.2⟩
    · exact ⟨_, .tail _ (.tail _ (.tail _ (.tail _ (.tail _ (.head _))))), mem_rect_ix (p := 8) (q := 256) rfl inb_S8x2816_S8x256_0_1280 y (by omega) (by omega) h.1 h.2⟩
    · exact ⟨_, .tail _ (.tail _ (.tail _ (.tail _ (.head _)))), mem_rect_ix (p := 8) (q := 256) rfl inb_S8x2816_S8x256_0_1536 y (by omega) (by omega) h.1 h.2⟩
    · exact ⟨_, .tail _ (.tail _ (.tail _ (.head _))), mem_rect_ix (p := 8) (q := 256) rfl inb_S8x2816_S8x256_0_1792 y (by omega) (by omega) h.1 h.2⟩
    · exact ⟨_, .tail _ (.tail _ (.head _)), mem_rect_ix (p := 8) (q := 256) rfl inb_S8x2816_S8x256_0_2048 y (by omega) (by omega) h.1 h.2⟩
    · exact ⟨_, .tail _ (.head _), mem_rect_ix (p := 8) (q := 256) rfl inb_S8x2816_S8x256_0_2304 y (by omega) (by omega) h.1 h.2⟩
    · exact ⟨_, .head _, mem_rect_ix (p := 8) (q := 256) rfl inb_S8x2816_S8x256_0_2560 y (by omega) (by omega) h.1 h.2⟩
end Body

end Cert.Ffn.KernelIdeal

end
-- ==== Proof.FfnFst.lean ====
/-
  The feed-forward kernel's body leaves the closed form in its output block.
-/
module

public import proofs.«01_k».proof.Proof.FfnLoads
public import proofs.«01_k».proof.Proof.Cells
public import Idealize.ShloMosaic.Lib.WritesUnit

@[expose] public section

set_option maxRecDepth 16384

noncomputable section

namespace Cert.Ffn.KernelIdeal

open Cert.Kernel2Ideal Cert.Kernel2Ideal.Gen Cert.Fox

open Idealize.ShloMosaic Idealize.ShloMosaic.TcCoe Idealize.ShloMosaic.Tactic

variable {F : FTy → Type} [FloatOps F]

section Body
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x5632 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S520x256 .f32) (harg12 : arg12.IsWhole) (arg13 : Memref sig .tc .vmem S8x2816 .f32) (harg13 : arg13.IsWhole)
    (x0 : Vec F S512x1024 .f32) (x1 : Vec F S1x1024 .f32) (x2 : Vec F S1x1x1024 .f32) (x3 : Vec F S1x1x1024 .f32) (x4 : Vec F S1024x5632 .bf16) (x5 : Vec F S3x2816 .f32) (x6 : Vec F S1x2816 .f32) (x7 : Vec F S2816x1024 .bf16) (x8 : Vec F S1x1024 .f32) (x9 : Vec F S1x1x1024 .f32) (fs : BufTy.Contents (Elt F) arg12.view.ty) (tl : Vec F S8x2816 .f32)

set_option maxHeartbeats 0 in
/-- THE BODY'S OUTPUT: one piece, the whole block, at the closed form. -/
theorem ffnRun_fst : (ffnRun (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 fs tl).1
    = [⟨Rect.unit (s := S512x1024) ![0, 0] S512x1024.size inb_S512x1024_S512x1024_0_0, ffnOut (i 0).val x0 x1 x2 x3 x4 x5 x6 x7 x8 x9 tl⟩] := by
  unfold ffnRun; dsimp only
  unfold ffnRun.sl.r_53 ffnRun.sl.v609 ffnRun.sl.v613 ffnRun.sl.HS0_22 ffnRun.sl.r_51 ffnRun.sl.r_52
  rw [halo_read _ _ _ _ 6 (by omega), halo_read _ _ _ _ 7 (by omega)]
  unfold ffnRun.sl.r_50 ffnRun.sl.r_48 ffnRun.sl.r_49 ffnRun.sl.v554 ffnRun.sl.v558 ffnRun.sl.HS0_20 ffnRun.sl.r_45 ffnRun.sl.r_47 ffnRun.sl.r_46
  rw [halo_read _ _ _ _ 6 (by omega), halo_read _ _ _ _ 7 (by omega)]
  unfold ffnRun.sl.r_44 ffnRun.sl.r_43 ffnRun.sl.v499 ffnRun.sl.v503 ffnRun.sl.HS0_18 ffnRun.sl.r_41 ffnRun.sl.r_42
  rw [halo_read _ _ _ _ 6 (by omega), halo_read _ _ _ _ 7 (by omega)]
  unfold ffnRun.sl.r_40 ffnRun.sl.r_38 ffnRun.sl.r_39 ffnRun.sl.v444 ffnRun.sl.v448 ffnRun.sl.HS0_16 ffnRun.sl.r_36 ffnRun.sl.r_37
  rw [halo_read _ _ _ _ 6 (by omega), halo_read _ _ _ _ 7 (by omega)]
  unfold ffnRun.sl.r_35 ffnRun.sl.r_34 ffnRun.sl.v389 ffnRun.sl.v393 ffnRun.sl.HS0_14 ffnRun.sl.r_32 ffnRun.sl.r_33
  rw [halo_read _ _ _ _ 6 (by omega), halo_read _ _ _ _ 7 (by omega)]
  unfold ffnRun.sl.r_31 ffnRun.sl.r_29 ffnRun.sl.r_30 ffnRun.sl.v334 ffnRun.sl.v338 ffnRun.sl.HS0_12 ffnRun.sl.r_26 ffnRun.sl.r_27
  rw [halo_read _ _ _ _ 6 (by omega), halo_read _ _ _ _ 7 (by omega)]
  unfold ffnRun.sl.r_25 ffnRun.sl.r_23 ffnRun.sl.r_24 ffnRun.sl.v279 ffnRun.sl.v283 ffnRun.sl.HS0_10 ffnRun.sl.r_21 ffnRun.sl.r_22
  rw [halo_read _ _ _ _ 6 (by omega), halo_read _ _ _ _ 7 (by omega)]
  unfold ffnRun.sl.r_20 ffnRun.sl.r_18 ffnRun.sl.r_19 ffnRun.sl.v224 ffnRun.sl.v228 ffnRun.sl.HS0_8 ffnRun.sl.r_15 ffnRun.sl.r_16
  rw [halo_read _ _ _ _ 6 (by omega), halo_read _ _ _ _ 7 (by omega)]
  unfold ffnRun.sl.r_14 ffnRun.sl.r_13 ffnRun.sl.v169 ffnRun.sl.v173 ffnRun.sl.HS0_6 ffnRun.sl.r_11 ffnRun.sl.r_12
  rw [halo_read _ _ _ _ 6 (by omega), halo_read _ _ _ _ 7 (by omega)]
  unfold ffnRun.sl.r_10 ffnRun.sl.r_9 ffnRun.sl.v114 ffnRun.sl.v118 ffnRun.sl.HS0_4 ffnRun.sl.r_7 ffnRun.sl.r_8
  rw [halo_read _ _ _ _ 6 (by omega), halo_read _ _ _ _ 7 (by omega)]
  unfold ffnRun.sl.r_6 ffnRun.sl.r_4 ffnRun.sl.r_5 ffnRun.sl.v59 ffnRun.sl.v63 ffnRun.sl.HS0_2 ffnRun.sl.r_2 ffnRun.sl.r_3
  rw [halo_read _ _ _ _ 6 (by omega), halo_read _ _ _ _ 7 (by omega)]
  unfold ffnRun.sl.r ffnRun.sl.r_1 ffnRun.sl.r_54 ffnRun.sl.r_17 ffnRun.sl.r_28
  unfold ffnRun.sl.v100 ffnRun.sl.v155 ffnRun.sl.v210 ffnRun.sl.v265 ffnRun.sl.v320 ffnRun.sl.v375 ffnRun.sl.v430 ffnRun.sl.v485 ffnRun.sl.v540 ffnRun.sl.v595
  simp only [wcol_read, crow_read, bcol_read, drow_read, tcol_read, x0_read, x1_read, x2_read, x3_read, x8_read, x9_read, first_eq, a5, a13, a20, a27, a36, a43, a53, a60, a69, a75, g6, g14, g21, g28, g37, g44, g54, g61, g70, g77, s8, s23, s39, s56, s72, s88, s16, s31, s47, s63, h7, h15, h22, h38, h55, h62, h71, h78, h30, h46, c0, c1, c2, c3, c4, c5, c6, c7, c8, c9]
  simp only [ffnOut, acc_eleven, step]

end Body

end Cert.Ffn.KernelIdeal

end
-- ==== Proof.FfnLaunch.lean ====
/-
  The launch of the feed-forward sub-layer: one grid of 128 tiles, each leaving the rows its neighbour reads, run from any
  memory. What the grid leaves is stated point by point; the run ends with the arguments unchanged.
-/
module

public import proofs.«01_k».proof.Proof.FfnClosed
public import proofs.«01_k».proof.Proof.FfnFst
public import Idealize.ShloMosaic.Lib.VecWindow
public import Idealize.ShloMosaic.Lib.Tactic

@[expose] public section

set_option maxRecDepth 16384

noncomputable section

namespace Cert.Ffn.KernelIdeal

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

/-! ## The first tile of a sequence reads no rows of another tile -/

theorem pay87_one (T T' : Vec F S8x256 .f32) : k0_pay87 1#1 T = k0_pay87 1#1 T' := rfl
theorem step_one (hb : FVec F S512x1024 .bf16) (x4 : Vec F S1024x5632 .bf16) (x5 : Vec F S3x2816 .f32) (x6 : Vec F S1x2816 .f32) (x7 : Vec F S2816x1024 .bf16)
    (tl tl' : Vec F S8x2816 .f32) (o o2 : ℕ) (a : FVec F S512x1024 .f32) :
    step 1#1 hb x4 x5 x6 x7 tl o o2 a = step 1#1 hb x4 x5 x6 x7 tl' o o2 a := by
  unfold step; rw [pay87_one (tcol tl o) (tcol tl' o)]
theorem acc_first (t : ℕ) (ht : t % 8 = 0) (hb : FVec F S512x1024 .bf16) (x4 : Vec F S1024x5632 .bf16) (x5 : Vec F S3x2816 .f32) (x6 : Vec F S1x2816 .f32) (x7 : Vec F S2816x1024 .bf16)
    (tl tl' : Vec F S8x2816 .f32) : ∀ k : ℕ, acc t hb x4 x5 x6 x7 tl k = acc t hb x4 x5 x6 x7 tl' k
  | 0 => rfl
  | k + 1 => by
    unfold acc
    rw [acc_first t ht hb x4 x5 x6 x7 tl tl' k, show first t = 1#1 from if_pos ht]
    exact step_one hb x4 x5 x6 x7 tl tl' _ _ _
theorem ffnOut_first (t : ℕ) (ht : t % 8 = 0) (x0 : Vec F S512x1024 .f32) (x1 : Vec F S1x1024 .f32) (x2 : Vec F S1x1x1024 .f32) (x3 : Vec F S1x1x1024 .f32) (x4 : Vec F S1024x5632 .bf16) (x5 : Vec F S3x2816 .f32) (x6 : Vec F S1x2816 .f32) (x7 : Vec F S2816x1024 .bf16) (x8 : Vec F S1x1024 .f32) (x9 : Vec F S1x1x1024 .f32) (tl tl' : Vec F S8x2816 .f32) :
    ffnOut t x0 x1 x2 x3 x4 x5 x6 x7 x8 x9 tl = ffnOut t x0 x1 x2 x3 x4 x5 x6 x7 x8 x9 tl' := by
  unfold ffnOut; rw [acc_first t ht _ x4 x5 x6 x7 tl tl' 11]

variable (m : (ℓ : Loc nD τ sig) → Buf (Elt F) ℓ) (ρ : Dev nD → PrngReg)
section Regions
variable (V : (c : Dev nD) → (b : Ref sig .tc) → Buf (Elt F) ((c : Thread nD τ).loc b))

/-- The block of an input, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

abbrev sc0 : Memref sig .tc .vmem S520x256 .f32 := Memref.whole cc0_scratch0
abbrev sc1 : Memref sig .tc .vmem S8x2816 .f32 := Memref.whole cc0_scratch1

/-- A buffer held at some contents, as its place in memory holding some bytes. -/
theorem owns_open (c : Dev nD) {s : Shape} {e : EltTy} (a : Memref sig .tc .vmem s e) (d : Vec F s e) :
    (owns (c : Thread nD τ) a fullShare d : sProp 𝕄) ⊢ iprop(∃ f, a.view.loc (c : Thread nD τ) ↦[a.view.set]{fullShare} f) := by
  unfold owns
  iintro ⟨%f, -, H⟩
  iexists f; iexact H

/-- The body on whole memrefs: the output ends at the closed form of the inputs and the rows found, the rows left at the tile's last eight. -/
theorem sound_kernel0 (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x5632 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S520x256 .f32) (harg12 : arg12.IsWhole) (arg13 : Memref sig .tc .vmem S8x2816 .f32) (harg13 : arg13.IsWhole)
    (x0 : Vec F S512x1024 .f32) (x1 : Vec F S1x1024 .f32) (x2 : Vec F S1x1x1024 .f32) (x3 : Vec F S1x1x1024 .f32) (x4 : Vec F S1024x5632 .bf16) (x5 : Vec F S3x2816 .f32) (x6 : Vec F S1x2816 .f32) (x7 : Vec F S2816x1024 .bf16) (x8 : Vec F S1x1024 .f32) (x9 : Vec F S1x1x1024 .f32) (tl : Vec F S8x2816 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare tl
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (ffnOut (i 0).val x0 x1 x2 x3 x4 x5 x6 x7 x8 x9 tl) ∗ (∃ d, owns (c : Thread nD τ) arg12 fullShare d) ∗ owns (c : Thread nD τ) arg13 fullShare (ffnTail (k0_pay3 x0 x1 x2 x3) x4)) -∗ K ⟨⟩))
      ⊢ wp frame (wpE (defs₀ (F := F)) Variants.none c none) E (cc0_conv_ffn i arg1 harg1 arg2 harg2 arg3 harg3 arg4 harg4 arg5 harg5 arg6 harg6 arg7 harg7 arg8 harg8 arg9 harg9 arg10 harg10 arg11 harg11 arg12 harg12 arg13 harg13) K := by
  iintro ⟨H0, H1, H2, H3, H4, H5, H6, H7, H8, H9, H10, ⟨%ds, HS⟩, HT, Hk⟩
  ihave HS := owns_open c arg12 ds $$ HS
  icases HS with ⟨%fs, HS⟩
  iapply ((ffnRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 fs tl).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  isplitl [HT]; · iexact HT
  iintro ⟨H0, H1, H2, H3, H4, H5, H6, H7, H8, H9, ⟨%e3, H10⟩, ⟨%fT, HS⟩, ⟨%fU, HT⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro
    rw [ffnRun_fst]
    exact View.read_writes_full arg11.view e3 _ _ _
  isplitl [HS]
  · iexists _; unfold owns; iexists _; isplitr
    swap; · iexact HS
    ipureintro; rfl
  unfold owns; iexists _; isplitr
  swap; · iexact HT
  ipureintro
  exact tail_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 fs tl fU

/-- The tile before tile `n`. -/
def prev (n : ℕ) : Fin cfg0.N := ⟨(n + 127) % 128, (Nat.mod_lt _ (by decide)).trans_le (le_of_eq N_0.symm)⟩
/-- The rows tile `n` finds, left by the tile before it. -/
def rows (c : Dev nD) (n : ℕ) : Vec F S8x2816 .f32 :=
  ffnTail (k0_pay3 (iblk0 V c 0 (prev n)) (iblk0 V c 1 (prev n)) (iblk0 V c 2 (prev n)) (iblk0 V c 3 (prev n))) (iblk0 V c 4 (prev n))
theorem prev_succ (t : Fin cfg0.N) : prev (t.val + 1) = t := Fin.ext (by
  have h : t.val < 128 := t.isLt.trans_eq N_0
  show (t.val + 1 + 127) % 128 = t.val
  omega)
theorem coord0 : ∀ t : Fin cfg0.N, ((grid0.coords t) 0).val = t.val := (by decide +kernel : ∀ t : Fin grid0.N, ((grid0.coords t) 0).val = t.val)

/-- What the output buffer holds after the body at point `t`. -/
def outsAt0 (c : Dev nD) (t : Fin cfg0.N) : Vec F S512x1024 .f32 :=
  ffnOut t.val (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (rows V c t.val)

/-- What is held between points: the staging rows at anything, the carried rows at the last tile's after the first point. -/
def carry (c : Dev nD) (n : ℕ) : sProp 𝕄 :=
  iprop((∃ d, owns (c : Thread nD τ) sc0 fullShare d) ∗ (∃ d, ⌜n ≠ 0 → d = rows V c n⌝ ∗ owns (c : Thread nD τ) sc1 fullShare d) ∗ (∃ r, prngReg c r))

/-- The pipeline's data: its arrays as found, its buffers after the body. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => outsAt0 V c t
  Φ t := carry V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = outsAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The rows found decide the tile as the rows named do: they are those, or the tile is its sequence's first. -/
theorem out_found (c : Dev nD) (t : Fin cfg0.N) (d : Vec F S8x2816 .f32) (hd : t.val ≠ 0 → d = rows V c t.val) :
    ffnOut t.val (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) d = outsAt0 V c t := by
  unfold outsAt0
  by_cases h : t.val = 0
  · exact ffnOut_first t.val (by rw [h]) _ _ _ _ _ _ _ _ _ _ _ _
  · rw [hd h]

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl,
    after0_0, after0_1, after0_2, after0_3, after0_4, after0_5, after0_6, after0_7, after0_8, after0_9, after0_10]
  rw [show (dat0 V c).Φ t.castSucc = carry V c t.val from rfl, show (dat0 V c).Φ t.succ = carry V c (t.val + 1) from rfl]
  unfold carry
  iintro ⟨⟨HS, ⟨%dt, %hdt, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) dt _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS]; · iexact HS
  isplitl [HT]; · iexact HT
  iintro ⟨H0, H1, H2, H3, H4, H5, H6, H7, H8, H9, H10, HS, HT⟩
  isplitl [HS HT Hg]
  · isplitl [HS]; · iexact HS
    isplitl [HT]
    · iexists _; isplitr
      swap; · iexact HT
      ipureintro
      intro _
      unfold rows; rw [prev_succ]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [coord0, out_found V c t dt hdt]
  iexact H10

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

abbrev argRefs : List (Ref sig .tc) := [main_arg0, main_arg1, main_arg2, main_arg3, main_arg4, main_arg5, main_arg6, main_arg7, main_arg8, main_arg9]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The contents after the grid. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)
theorem W2_main_arg3 (c : Dev nD) : W2 m ρ c (Proc.devRef .tc main_arg3) = m ((c : Thread nD τ).loc main_arg3) :=
  W2_args m ρ c main_arg3 (by decide)
theorem W2_main_arg4 (c : Dev nD) : W2 m ρ c (Proc.devRef .tc main_arg4) = m ((c : Thread nD τ).loc main_arg4) :=
  W2_args m ρ c main_arg4 (by decide)
theorem W2_main_arg5 (c : Dev nD) : W2 m ρ c (Proc.devRef .tc main_arg5) = m ((c : Thread nD τ).loc main_arg5) :=
  W2_args m ρ c main_arg5 (by decide)
theorem W2_main_arg6 (c : Dev nD) : W2 m ρ c (Proc.devRef .tc main_arg6) = m ((c : Thread nD τ).loc main_arg6) :=
  W2_args m ρ c main_arg6 (by decide)
theorem W2_main_arg7 (c : Dev nD) : W2 m ρ c (Proc.devRef .tc main_arg7) = m ((c : Thread nD τ).loc main_arg7) :=
  W2_args m ρ c main_arg7 (by decide)
theorem W2_main_arg8 (c : Dev nD) : W2 m ρ c (Proc.devRef .tc main_arg8) = m ((c : Thread nD τ).loc main_arg8) :=
  W2_args m ρ c main_arg8 (by decide)
theorem W2_main_arg9 (c : Dev nD) : W2 m ρ c (Proc.devRef .tc main_arg9) = m ((c : Thread nD τ).loc main_arg9) :=
  W2_args m ρ c main_arg9 (by decide)

abbrev adm : (p : Fin 1) → (pcfgs (F := F) p).Adm := fun p => (cfgs p).toPCfg_adm
/-- The pipeline's data. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = carry (V1 m ρ) c 0 from rfl, scopedRest0_eq]
    unfold carry; simp only [sc0, sc1, owns_whole]
    iintro ⟨Hp, -, H0, ⟨%f1, H1⟩⟩
    isplitl [H0]; · iexact H0
    isplitl [H1]
    · iexists f1; isplitr
      · ipureintro; exact fun h => absurd rfl h
      iexact H1
    iexact Hp
  hout c := by
    rw [Pipeline.ownSems0_none, show (pdats m ρ 0 c).Φ (Fin.last _) = carry (V1 m ρ) c cfg0.N from rfl, scopedRest0_eq]
    unfold carry; simp only [sc0, sc1, owns_whole]
    iintro ⟨H0, ⟨%f1, -, H1⟩, Hp⟩
    isplitl [Hp]; · iexact Hp
    isplitr; · iempintro
    isplitl [H0]; · iexact H0
    iexists f1; iexact H1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ) ]
/-- The program is the run of its two segments. -/
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- THE RUN: every execution ends with the arguments as launched, the result at what the grid's write-backs leave, the counters at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_v6) = (dat0 (V1 m ρ) c).arrAt 10 cfg0.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c),
       (h c _ (mem_uc main_v6 (by decide))).trans (W2_arr m ρ c 10)⟩), funext fun g => hz g (.inr (no_unscoped g.2))⟩)

end Cert.Ffn.KernelIdeal

end
-- ==== Proof.FfnRef.lean ====
/-
  The feed-forward sub-layer's reference, stage by stage, and each stage at an index.
-/
module

public import proofs.«01_k».proof.Proof.Gen.Reference2Ideal.Run
public import proofs.«01_k».proof.Proof.Rows
public import Idealize.ShloMosaic.Lib.Pointwise

@[expose] public section

set_option maxRecDepth 16384

noncomputable section

namespace Cert.Ffn.ReferenceIdeal

open Idealize.ShloMosaic Idealize.ShloMosaic.TcCoe Idealize.SL.Sem
open Cert.Reference2Ideal Cert.Reference2Ideal.Gen Cert.Fox

section
variable {F : FTy → Type} [FloatOps F]

/-- A row's scale: the reciprocal root of its mean square. -/
def nrm (v : FVec F S16x4096x1024 .f32) : FVec F S16x4096x1024 .f32 :=
  broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf v v) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32))))
/-- A row weight, over the rows. -/
def wgt (g : FVec F S1024 .f32) : FVec F S16x4096x1024 .f32 :=
  broadcastInDim S16x4096x1024 ![0, 1, 2] bcast_S1x1x1024_S16x4096x1024_0_1_2 (broadcastInDim S1x1x1024 ![2] bcast_S1024_S1x1x1024_2 g)
/-- The normed rows, scaled and shifted. -/
def hR (x : FVec F S16x4096x1024 .f32) (g : FVec F S1024 .f32) (sc sh : FVec F S16x1x1024 .f32) : FVec F S16x4096x1024 .f32 :=
  addf (mulf (mulf (mulf x (nrm x)) (wgt g)) (broadcastInDim S16x4096x1024 ![0, 1, 2] bcast_S16x1x1024_S16x4096x1024_0_1_2 (addf (broadcastInDim S16x1x1024 ![] bcast_S_S16x1x1024 (constant S_ .f32 0x3F800000#32)) sc)))
    (broadcastInDim S16x4096x1024 ![0, 1, 2] bcast_S16x1x1024_S16x4096x1024_0_1_2 sh)
/-- The up-projection. -/
def upR (h : FVec F S16x4096x1024 .f32) (w : FVec F S1024x5632 .f32) : FVec F S16x4096x5632 .f32 :=
  Host.dotGeneral dot_S16x4096x1024_S1024x5632_S16x4096x5632_2_0_01_1_n_n none h w
/-- The first half of the channels under two rows of zeros. -/
def apR (a : FVec F S16x4096x5632 .f32) : FVec F S16x4098x2816 .f32 :=
  pad S16x4098x2816 ![0, 2, 0] ![0, 0, 0] ![0, 0, 0] (extractStridedSlice S16x4096x2816 ![0, 0, 0] a slices_S16x4096x5632_S16x4096x2816_0_0_0) (sitofp .f32 (constantI S_ 32 0#32)) pads_S16x4096x2816_S16x4098x2816_000_200_000 h_S_
/-- The convolution over three rows. -/
def cvR (p : FVec F S16x4098x2816 .f32) (cw : FVec F S3x2816 .f32) (cb : FVec F S2816 .f32) : FVec F S16x4096x2816 .f32 :=
  addf (addf (addf
    (mulf (broadcastInDim S16x4096x2816 ![0, 1, 2] bcast_S1x1x2816_S16x4096x2816_0_1_2 (broadcastInDim S1x1x2816 ![2] bcast_S2816_S1x1x2816_2 (shapeCast _ (extractStridedSlice S1x2816 ![0, 0] cw slices_S3x2816_S1x2816_0_0) shapeCasts_S1x2816_S2816))) (extractStridedSlice S16x4096x2816 ![0, 0, 0] p slices_S16x4098x2816_S16x4096x2816_0_0_0))
    (mulf (broadcastInDim S16x4096x2816 ![0, 1, 2] bcast_S1x1x2816_S16x4096x2816_0_1_2 (broadcastInDim S1x1x2816 ![2] bcast_S2816_S1x1x2816_2 (shapeCast _ (extractStridedSlice S1x2816 ![1, 0] cw slices_S3x2816_S1x2816_1_0) shapeCasts_S1x2816_S2816))) (extractStridedSlice S16x4096x2816 ![0, 1, 0] p slices_S16x4098x2816_S16x4096x2816_0_1_0)))
    (mulf (broadcastInDim S16x4096x2816 ![0, 1, 2] bcast_S1x1x2816_S16x4096x2816_0_1_2 (broadcastInDim S1x1x2816 ![2] bcast_S2816_S1x1x2816_2 (shapeCast _ (extractStridedSlice S1x2816 ![2, 0] cw slices_S3x2816_S1x2816_2_0) shapeCasts_S1x2816_S2816))) (extractStridedSlice S16x4096x2816 ![0, 2, 0] p slices_S16x4098x2816_S16x4096x2816_0_2_0)))
    (broadcastInDim S16x4096x2816 ![0, 1, 2] bcast_S1x1x2816_S16x4096x2816_0_1_2 (broadcastInDim S1x1x2816 ![2] bcast_S2816_S1x1x2816_2 cb))
/-- The gelu, the product with the second half of the channels. -/
def zR (v : FVec F S16x4096x2816 .f32) (a : FVec F S16x4096x5632 .f32) : FVec F S16x4096x2816 .f32 :=
  mulf (mulf v (mulf (broadcastInDim S16x4096x2816 ![] bcast_S_S16x4096x2816 (constant S_ .f32 0x3F000000#32)) (addf (broadcastInDim S16x4096x2816 ![] bcast_S_S16x4096x2816 (constant S_ .f32 0x3F800000#32))
    (Host.tanh (mulf (broadcastInDim S16x4096x2816 ![] bcast_S_S16x4096x2816 (constant S_ .f32 0x3F4C422A#32)) (addf v (mulf (broadcastInDim S16x4096x2816 ![] bcast_S_S16x4096x2816 (constant S_ .f32 0x3D372713#32)) (mulf (mulf v v) v))))))))
    (extractStridedSlice S16x4096x2816 ![0, 0, 2816] a slices_S16x4096x5632_S16x4096x2816_0_0_2816)
/-- The down-projection. -/
def yR (z : FVec F S16x4096x2816 .f32) (d : FVec F S2816x1024 .f32) : FVec F S16x4096x1024 .f32 :=
  Host.dotGeneral dot_S16x4096x2816_S2816x1024_S16x4096x1024_2_0_01_1_n_n none z d
/-- The result. -/
def oR (x y : FVec F S16x4096x1024 .f32) (go : FVec F S1024 .f32) (gt : FVec F S16x1x1024 .f32) : FVec F S65536x1024 .f32 :=
  shapeCast _ (addf x (mulf (broadcastInDim S16x4096x1024 ![0, 1, 2] bcast_S16x1x1024_S16x4096x1024_0_1_2 gt) (mulf (mulf y (nrm y)) (wgt go)))) shapeCasts_S16x4096x1024_S65536x1024

/-- The sub-layer. -/
def ffnR (x : FVec F S16x4096x1024 .f32) (g : FVec F S1024 .f32) (sc sh : FVec F S16x1x1024 .f32) (w : FVec F S1024x5632 .f32) (cw : FVec F S3x2816 .f32) (cb : FVec F S2816 .f32)
    (d : FVec F S2816x1024 .f32) (go : FVec F S1024 .f32) (gt : FVec F S16x1x1024 .f32) : FVec F S65536x1024 .f32 :=
  oR x (yR (zR (cvR (apR (upR (hR x g sc sh) w)) cw cb) (upR (hR x g sc sh) w)) d) go gt

theorem res_eq (m : (ℓ : Loc nD τ sig) → Buf (Elt F) ℓ) (c : Dev nD) :
    Value.res_out0 m c = ffnR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  unfold Value.res_out0 Value.res_main_v77
  unfold ffnR oR yR zR cvR apR upR hR nrm wgt
  rfl
end

/-- The scale of a row of 1024 values. -/
def scale (v : Fin 1024 → EReal) : EReal :=
  Ideal.rsqrt (Ideal.div (∑ e : Fin 1024, v e * v e) (Ideal.ofBits .f32 0x44800000#32) + Ideal.ofBits .f32 0x358637BD#32)
/-- The gelu. -/
def gelu (v : EReal) : EReal :=
  v * (Ideal.ofBits .f32 0x3F000000#32 * (Ideal.ofBits .f32 0x3F800000#32 + Ideal.tanh (Ideal.ofBits .f32 0x3F4C422A#32 * (v + Ideal.ofBits .f32 0x3D372713#32 * (v * (v * v))))))

theorem hR_apply (x : FVec Ideal S16x4096x1024 .f32) (g : FVec Ideal S1024 .f32) (sc sh : FVec Ideal S16x1x1024 .f32) (b : Fin 16) (s : Fin 4096) (d : Fin 1024) :
    hR x g sc sh (ix3 b s d) = x (ix3 b s d) * scale (fun e => x (ix3 b s e)) * g (ix1 d) * (Ideal.ofBits .f32 0x3F800000#32 + sc (ix3 b 0 d)) + sh (ix3 b 0 d) := by
  unfold scale
  pointwise [hR, nrm, wgt]

theorem upR_apply (h : FVec Ideal S16x4096x1024 .f32) (w : FVec Ideal S1024x5632 .f32) (b : Fin 16) (s : Fin 4096) (j : Fin 5632) :
    upR h w (ix3 b s j) = ∑ e : Fin 1024, h (ix3 b s e) * w (ix2 e j) := by
  pointwise [upR]

theorem cvR_apply (p : FVec Ideal S16x4098x2816 .f32) (cw : FVec Ideal S3x2816 .f32) (cb : FVec Ideal S2816 .f32) (b : Fin 16) (s : Fin 4096) (j : Fin 2816) :
    cvR p cw cb (ix3 b s j) = cw (ix2 0 j) * p (ix3 b (⟨s.val, by omega⟩ : Fin 4098) j) + cw (ix2 1 j) * p (ix3 b (⟨1 + s.val, by omega⟩ : Fin 4098) j)
      + cw (ix2 2 j) * p (ix3 b (⟨2 + s.val, by omega⟩ : Fin 4098) j) + cb (ix1 j) := by
  pointwise [cvR]

theorem zR_apply (v : FVec Ideal S16x4096x2816 .f32) (a : FVec Ideal S16x4096x5632 .f32) (b : Fin 16) (s : Fin 4096) (j : Fin 2816) :
    zR v a (ix3 b s j) = gelu (v (ix3 b s j)) * a (ix3 b s (⟨2816 + j.val, by omega⟩ : Fin 5632)) := by
  unfold gelu
  rw [mul_comm (v (ix3 b s j)) (v (ix3 b s j) * v (ix3 b s j))]
  pointwise [zR]

theorem yR_apply (z : FVec Ideal S16x4096x2816 .f32) (d : FVec Ideal S2816x1024 .f32) (b : Fin 16) (s : Fin 4096) (j : Fin 1024) :
    yR z d (ix3 b s j) = ∑ e : Fin 2816, z (ix3 b s e) * d (ix2 e j) := by
  pointwise [yR]

theorem oR_apply (x y : FVec Ideal S16x4096x1024 .f32) (go : FVec Ideal S1024 .f32) (gt : FVec Ideal S16x1x1024 .f32) (b : Fin 16) (s : Fin 4096) (d : Fin 1024) :
    oR x y go gt (ix2 (⟨4096 * b.val + s.val, by omega⟩ : Fin 65536) d) = x (ix3 b s d) + gt (ix3 b 0 d) * (y (ix3 b s d) * scale (fun e => y (ix3 b s e)) * go (ix1 d)) := by
  unfold scale
  pointwise [oR, nrm, wgt]

theorem apR_low (a : FVec Ideal S16x4096x5632 .f32) (b : Fin 16) (p : Fin 4098) (hp : p.val < 2) (j : Fin 2816) : apR a (ix3 b p j) = 0 := by
  pointwise [apR]
  rw [dif_neg (by omega)]
  show ((((0#32 : BitVec 32).toInt : ℝ)) : EReal) = 0
  simp

theorem apR_high (a : FVec Ideal S16x4096x5632 .f32) (b : Fin 16) (s : Fin 4096) (j : Fin 2816) :
    apR a (ix3 b (⟨2 + s.val, by omega⟩ : Fin 4098) j) = a (ix3 b s (⟨j.val, by omega⟩ : Fin 5632)) := by
  pointwise [apR]

end Cert.Ffn.ReferenceIdeal

end
-- ==== Proof.FfnPays.lean ====
/-
  The feed-forward kernel's chunks at exact arithmetic, element by element.
-/
module

public import proofs.«01_k».proof.Proof.FfnLoads
public import proofs.«01_k».proof.Proof.FfnRef

@[expose] public section

set_option maxRecDepth 16384

noncomputable section

namespace Cert.Ffn.KernelIdeal

open Idealize.ShloMosaic Idealize.ShloMosaic.TcCoe Idealize.SL.Sem
open Cert.Kernel2Ideal Cert.Kernel2Ideal.Gen Cert.Fox Cert.Ffn.ReferenceIdeal

/-- The normed, scaled and shifted row. -/
theorem pay3_apply (x0 : Vec Ideal S512x1024 .f32) (x1 : Vec Ideal S1x1024 .f32) (x2 x3 : Vec Ideal S1x1x1024 .f32) (r : Fin 512) (d : Fin 1024) :
    k0_pay3 x0 x1 x2 x3 (ix2 r d) = x0 (ix2 r d) * scale (fun e => x0 (ix2 r e)) * x1 (ix2 0 d) * (Ideal.ofBits .f32 0x3F800000#32 + x2 (ix3 0 0 d)) + x3 (ix3 0 0 d) := by
  unfold scale
  pointwise [k0_pay3, k0_pay2]

theorem pay85_apply (hb : FVec Ideal S512x1024 .bf16) (w : Vec Ideal S1024x256 .bf16) (r : Fin 512) (j : Fin 256) :
    k0_pay85 hb w (ix2 r j) = ∑ e : Fin 1024, hb (ix2 r e) * w (ix2 e j) := by
  pointwise [k0_pay85]
theorem pay86_apply (hb : FVec Ideal S512x1024 .bf16) (w : Vec Ideal S1024x256 .bf16) (r : Fin 512) (j : Fin 256) :
    k0_pay86 hb w (ix2 r j) = ∑ e : Fin 1024, hb (ix2 r e) * w (ix2 e j) := by
  pointwise [k0_pay86]
theorem pay79_apply (a : FVec Ideal S512x256 .f32) (r : Fin 512) (j : Fin 256) : k0_pay79 a (ix2 r j) = a (ix2 r j) := by
  pointwise [k0_pay79]
theorem pay80_apply (a : FVec Ideal S512x256 .f32) (r : Fin 8) (j : Fin 256) : k0_pay80 a (ix2 r j) = a (ix2 (⟨504 + r.val, by omega⟩ : Fin 512) j) := by
  pointwise [k0_pay80]
theorem pay87_first (T : Vec Ideal S8x256 .f32) (r : Fin 8) (j : Fin 256) : k0_pay87 1#1 T (ix2 r j) = 0 := by
  pointwise [k0_pay87]
theorem pay87_later (T : Vec Ideal S8x256 .f32) (r : Fin 8) (j : Fin 256) : k0_pay87 0#1 T (ix2 r j) = T (ix2 r j) := by
  pointwise [k0_pay87]
theorem pay4_apply (r : Fin 512) (d : Fin 1024) : k0_pay4 (F := Ideal) (ix2 r d) = 0 := by
  pointwise [k0_pay4]

/-- A chunk adds its 256 channels' products. -/
theorem pay90_apply (ac : FVec Ideal S512x1024 .f32) (a g h0 h1 : FVec Ideal S512x256 .f32) (w0 w1 w2 cb : Vec Ideal S1x256 .f32) (wd : Vec Ideal S256x1024 .bf16) (r : Fin 512) (d : Fin 1024) :
    k0_pay90 ac a g w0 h0 w1 h1 w2 cb wd (ix2 r d) = ac (ix2 r d) + ∑ j : Fin 256,
      gelu (w0 (ix2 0 j) * h0 (ix2 r j) + w1 (ix2 0 j) * h1 (ix2 r j) + w2 (ix2 0 j) * a (ix2 r j) + cb (ix2 0 j)) * g (ix2 r j) * wd (ix2 j d) := by
  unfold gelu
  pointwise [k0_pay90]

theorem pay1_apply (x y : FVec Ideal S512x1024 .f32) (gt : FVec Ideal S1x1024 .f32) (go : Vec Ideal S1x1024 .f32) (r : Fin 512) (d : Fin 1024) :
    k0_pay1 x y gt go (ix2 r d) = x (ix2 r d) + gt (ix2 0 d) * (y (ix2 r d) * scale (fun e => y (ix2 r e)) * go (ix2 0 d)) := by
  unfold scale
  pointwise [k0_pay1]
theorem pay2_apply (x : Vec Ideal S512x1024 .f32) (r : Fin 512) (d : Fin 1024) : k0_pay2 x (ix2 r d) = x (ix2 r d) := by
  pointwise [k0_pay2]
theorem pay91_apply (x : Vec Ideal S1x1x1024 .f32) (d : Fin 1024) : k0_pay91 x (ix2 0 d) = x (ix3 0 0 d) := by
  pointwise [k0_pay91]

end Cert.Ffn.KernelIdeal

end
-- ==== Proof.FfnMatch.lean ====
/-
  A tile of the feed-forward kernel holds the reference's rows: the up-projection, the convolution over the rows of this
  tile and the last two of the tile before it, the down-projection's sum over the chunks, the output.
-/
module

public import proofs.«01_k».proof.Proof.FfnPays

@[expose] public section

set_option maxRecDepth 16384

noncomputable section

namespace Cert.Ffn.KernelIdeal

open Idealize.ShloMosaic Idealize.ShloMosaic.TcCoe Idealize.SL.Sem
open Cert.Kernel2Ideal Cert.Kernel2Ideal.Gen Cert.Fox Cert.Ffn.ReferenceIdeal

/-- A place named by numbers in range. -/
theorem ix_at {n m : ℕ} [NeZero n] [NeZero m] {r c : ℕ} (a : Fin n) (b : Fin m) (h : r = a.val) (h' : c = b.val) : ix n m r c = ix2 a b := by
  subst h h'
  funext k
  match k with
  | ⟨0, _⟩ => exact Fin.ext (Nat.mod_eq_of_lt a.isLt)
  | ⟨1, _⟩ => exact Fin.ext (Nat.mod_eq_of_lt b.isLt)

/-- Row `r` of tile `q` in its sequence. -/
def srow (q : Fin 8) (r : Fin 512) : Fin 4096 := ⟨512 * q.val + r.val, by omega⟩

section
theorem before_lt (q : Fin 8) (r : Fin 8) : 512 * q.val + r.val - 8 < 4096 := by omega
theorem half_lt (j : Fin 2816) : j.val < 5632 := by omega

variable (X : FVec Ideal S16x4096x1024 .f32) (G : FVec Ideal S1024 .f32) (SC SH : FVec Ideal S16x1x1024 .f32) (W : FVec Ideal S1024x5632 .f32) (CW : FVec Ideal S3x2816 .f32) (CB : FVec Ideal S2816 .f32)
  (D : FVec Ideal S2816x1024 .f32) (GO : FVec Ideal S1024 .f32) (GT : FVec Ideal S16x1x1024 .f32)
variable (b : Fin 16) (q : Fin 8)
variable (x0 : Vec Ideal S512x1024 .f32) (x1 : Vec Ideal S1x1024 .f32) (x2 : Vec Ideal S1x1x1024 .f32) (x3 : Vec Ideal S1x1x1024 .f32) (x4 : Vec Ideal S1024x5632 .bf16) (x5 : Vec Ideal S3x2816 .f32) (x6 : Vec Ideal S1x2816 .f32) (x7 : Vec Ideal S2816x1024 .bf16) (x8 : Vec Ideal S1x1024 .f32) (x9 : Vec Ideal S1x1x1024 .f32)
  (tl : Vec Ideal S8x2816 .f32)
variable (e0 : ∀ (r : Fin 512) (d : Fin 1024), x0 (ix2 r d) = X (ix3 b (srow q r) d)) (e1 : ∀ d : Fin 1024, x1 (ix2 0 d) = G (ix1 d))
  (e2 : ∀ d : Fin 1024, x2 (ix3 0 0 d) = SC (ix3 b 0 d)) (e3 : ∀ d : Fin 1024, x3 (ix3 0 0 d) = SH (ix3 b 0 d))
  (e4 : ∀ (e : Fin 1024) (j : Fin 5632), x4 (ix2 e j) = W (ix2 e j)) (e5 : ∀ (k : Fin 3) (j : Fin 2816), x5 (ix2 k j) = CW (ix2 k j))
  (e6 : ∀ j : Fin 2816, x6 (ix2 0 j) = CB (ix1 j)) (e7 : ∀ (j : Fin 2816) (d : Fin 1024), x7 (ix2 j d) = D (ix2 j d))
  (e8 : ∀ d : Fin 1024, x8 (ix2 0 d) = GO (ix1 d)) (e9 : ∀ d : Fin 1024, x9 (ix3 0 0 d) = GT (ix3 b 0 d))

include e0 e1 e2 e3 in
theorem hb_eq (r : Fin 512) (d : Fin 1024) : k0_pay3 x0 x1 x2 x3 (ix2 r d) = hR X G SC SH (ix3 b (srow q r) d) := by
  rw [pay3_apply, hR_apply, e0, e1, e2, e3]
  simp only [e0]

section
variable (h : FVec Ideal S16x4096x1024 .f32) (hb : FVec Ideal S512x1024 .bf16) (hh : ∀ (r : Fin 512) (d : Fin 1024), hb (ix2 r d) = h (ix3 b (srow q r) d))

include hh e4 in
theorem up_eq (o : ℕ) (ho : o + 256 ≤ 5632) (r : Fin 512) (j : Fin 256) :
    k0_pay85 hb (wcol x4 o) (ix2 r j) = upR h W (ix3 b (srow q r) (⟨o + j.val, by omega⟩ : Fin 5632)) := by
  rw [pay85_apply, upR_apply]
  refine Finset.sum_congr rfl fun e _ => ?_
  rw [hh, ← e4]
  exact congrArg (fun z => h (ix3 b (srow q r) e) * x4 z) (ix_at e (⟨o + j.val, by omega⟩ : Fin 5632) (Nat.zero_add _) rfl)

include hh e4 in
theorem gate_eq (o : ℕ) (ho : o + 256 ≤ 5632) (r : Fin 512) (j : Fin 256) :
    k0_pay86 hb (wcol x4 o) (ix2 r j) = upR h W (ix3 b (srow q r) (⟨o + j.val, by omega⟩ : Fin 5632)) := by
  rw [pay86_apply, ← pay85_apply]
  exact up_eq W b q x4 e4 h hb hh o ho r j

include hh e4 in
/-- The rows a tile leaves are its last eight. -/
theorem tail_eq (r : Fin 8) (j : Fin 2816) :
    ffnTail hb x4 (ix2 r j) = upR h W (ix3 b (srow q (⟨504 + r.val, by omega⟩ : Fin 512)) (⟨j.val, by omega⟩ : Fin 5632)) := by
  show k0_pay80 (k0_pay85 hb (wcol x4 (256 * (j.val / 256)))) (ix 8 256 r.val (j.val % 256)) = _
  rw [ix_at (n := 8) (m := 256) (r := r.val) (c := j.val % 256) r (⟨j.val % 256, Nat.mod_lt _ (by decide)⟩ : Fin 256) rfl rfl, pay80_apply]
  refine (up_eq W b q x4 e4 h hb hh (256 * (j.val / 256)) (by have := j.isLt; omega) _ _).trans ?_
  exact congrArg (fun z => upR h W (ix3 b (srow q (⟨504 + r.val, by omega⟩ : Fin 512)) z)) (Fin.ext (Nat.div_add_mod _ _))

variable (t : ℕ) (ht : t % 8 = q.val)
variable (etl : q.val ≠ 0 → ∀ (r : Fin 8) (j : Fin 2816), tl (ix2 r j) = upR h W (ix3 b (⟨512 * q.val + r.val - 8, before_lt q r⟩ : Fin 4096) (⟨j.val, half_lt j⟩ : Fin 5632)))

include ht hh e4 etl in
/-- The rows under the eight carried ones are the padded rows. -/
theorem halo_eq (o : ℕ) (ho : o + 256 ≤ 2816) (p : ℕ) (hp : p = 6 ∨ p = 7) (r : Fin 512) (j : Fin 256) (s : Fin 4098) (hs : s.val = 512 * q.val + r.val + p - 6) :
    halo (k0_pay87 (first t) (tcol tl o)) (k0_pay79 (k0_pay85 hb (wcol x4 o))) p (ix2 r j) = apR (upR h W) (ix3 b s (⟨o + j.val, by omega⟩ : Fin 2816)) := by
  have hr := r.isLt
  have hq := q.isLt
  have hj := j.isLt
  show (if p + r.val < 8 then k0_pay87 (first t) (tcol tl o) (ix 8 256 (p + r.val) j.val) else k0_pay79 (k0_pay85 hb (wcol x4 o)) (ix 512 256 (p + r.val - 8) j.val)) = _
  by_cases hpr : p + r.val < 8
  · rw [if_pos hpr, ix_at (n := 8) (m := 256) (r := p + r.val) (c := j.val) (⟨p + r.val, hpr⟩ : Fin 8) j rfl rfl]
    by_cases hq0 : q.val = 0
    · rw [show first t = 1#1 from if_pos (ht.trans hq0), pay87_first, apR_low _ _ _ (by omega)]
    · rw [show first t = 0#1 from if_neg (by omega), pay87_later]
      show tl (ix 8 2816 (0 + (p + r.val)) (o + j.val)) = _
      rw [ix_at (n := 8) (m := 2816) (r := 0 + (p + r.val)) (c := o + j.val) (⟨p + r.val, hpr⟩ : Fin 8) (⟨o + j.val, by omega⟩ : Fin 2816) (Nat.zero_add _) rfl, etl hq0]
      refine (apR_high _ b _ _).symm.trans ?_
      refine congrArg (fun z => apR (upR h W) (ix3 b z (⟨o + j.val, by omega⟩ : Fin 2816))) (Fin.ext ?_)
      show 2 + (512 * q.val + (p + r.val) - 8) = s.val
      omega
  · rw [if_neg hpr, ix_at (n := 512) (m := 256) (r := p + r.val - 8) (c := j.val) (⟨p + r.val - 8, by omega⟩ : Fin 512) j rfl rfl, pay79_apply, up_eq W b q x4 e4 h hb hh o (by omega)]
    refine (apR_high _ b _ (⟨o + j.val, by omega⟩ : Fin 2816)).symm.trans ?_
    refine congrArg (fun z => apR (upR h W) (ix3 b z (⟨o + j.val, by omega⟩ : Fin 2816))) (Fin.ext ?_)
    show 2 + (512 * q.val + (p + r.val - 8)) = s.val
    omega

/-- A hidden channel of the reference. -/
def zf (r : Fin 512) (j : Fin 2816) : EReal := zR (cvR (apR (upR h W)) CW CB) (upR h W) (ix3 b (srow q r) j)

include ht hh e4 e5 e6 e7 etl in
theorem step_eq (k : ℕ) (hk : k < 11) (ac : FVec Ideal S512x1024 .f32) (r : Fin 512) (d : Fin 1024) :
    step (first t) hb x4 x5 x6 x7 tl (256 * k) (2816 + 256 * k) ac (ix2 r d)
      = ac (ix2 r d) + ∑ j : Fin 256, zf W CW CB b q h r (⟨256 * k + j.val, by omega⟩ : Fin 2816) * D (ix2 (⟨256 * k + j.val, by omega⟩ : Fin 2816) d) := by
  unfold step
  rw [pay90_apply]
  refine congrArg (ac (ix2 r d) + ·) (Finset.sum_congr rfl fun j _ => ?_)
  have hj := j.isLt
  have c0 : ∀ i : Fin 3, crow x5 i.val (256 * k) (ix2 0 j) = CW (ix2 i (⟨256 * k + j.val, by omega⟩ : Fin 2816)) := fun i =>
    (congrArg x5 (ix_at (n := 3) (m := 2816) i (⟨256 * k + j.val, by omega⟩ : Fin 2816) (Nat.add_zero _) rfl)).trans (e5 _ _)
  have cb : bcol x6 (256 * k) (ix2 0 j) = CB (ix1 (⟨256 * k + j.val, by omega⟩ : Fin 2816)) :=
    (congrArg x6 (ix_at (n := 1) (m := 2816) (0 : Fin 1) (⟨256 * k + j.val, by omega⟩ : Fin 2816) rfl rfl)).trans (e6 _)
  have dr : drow x7 (256 * k) (ix2 j d) = D (ix2 (⟨256 * k + j.val, by omega⟩ : Fin 2816) d) :=
    (congrArg x7 (ix_at (n := 2816) (m := 1024) (⟨256 * k + j.val, by omega⟩ : Fin 2816) d rfl (Nat.zero_add _))).trans (e7 _ _)
  have hr := r.isLt
  have hq := q.isLt
  have k0 : crow x5 0 (256 * k) (ix2 0 j) = _ := c0 0
  have k1 : crow x5 1 (256 * k) (ix2 0 j) = _ := c0 1
  have k2 : crow x5 2 (256 * k) (ix2 0 j) = _ := c0 2
  rw [k0, k1, k2, cb, dr,
    halo_eq W b q x4 tl e4 h hb hh t ht etl (256 * k) (by omega) 6 (.inl rfl) r j (⟨(srow q r).val, by omega⟩ : Fin 4098) (by show 512 * q.val + r.val = _; omega),
    halo_eq W b q x4 tl e4 h hb hh t ht etl (256 * k) (by omega) 7 (.inr rfl) r j (⟨1 + (srow q r).val, by omega⟩ : Fin 4098) (by show 1 + (512 * q.val + r.val) = _; omega),
    up_eq W b q x4 e4 h hb hh (256 * k) (by omega), gate_eq W b q x4 e4 h hb hh (2816 + 256 * k) (by omega),
    ← apR_high (upR h W) b (srow q r) (⟨256 * k + j.val, by omega⟩ : Fin 2816)]
  unfold zf
  rw [zR_apply, cvR_apply]
  refine congrArg (fun z => gelu _ * upR h W (ix3 b (srow q r) z) * _) (Fin.ext ?_)
  show 2816 + 256 * k + j.val = 2816 + (256 * k + j.val)
  omega

include ht hh e4 e5 e6 e7 etl in
/-- The sum after `k` chunks. -/
theorem acc_eq (r : Fin 512) (d : Fin 1024) : ∀ k : ℕ, k ≤ 11 →
    acc t hb x4 x5 x6 x7 tl k (ix2 r d) = ∑ j ∈ Finset.range (256 * k), zf W CW CB b q h r (Fin.ofNat 2816 j) * D (ix2 (Fin.ofNat 2816 j) d)
  | 0, _ => pay4_apply r d
  | k + 1, hk => by
    unfold acc
    rw [step_eq W CW CB D b q x4 x5 x6 x7 tl e4 e5 e6 e7 h hb hh t ht etl k (by omega), acc_eq r d k (by omega), show 256 * (k + 1) = 256 * k + 256 by omega,
      Finset.sum_range_add, Finset.sum_range (n := 256)]
    refine congrArg (_ + ·) (Finset.sum_congr rfl fun j _ => ?_)
    have hj := j.isLt
    have e : (⟨256 * k + j.val, by omega⟩ : Fin 2816) = Fin.ofNat 2816 (256 * k + j.val) := Fin.ext (Nat.mod_eq_of_lt (by omega)).symm
    rw [e]

include ht hh e4 e5 e6 e7 etl in
theorem y_eq (r : Fin 512) (d : Fin 1024) :
    acc t hb x4 x5 x6 x7 tl 11 (ix2 r d) = yR (zR (cvR (apR (upR h W)) CW CB) (upR h W)) D (ix3 b (srow q r) d) := by
  rw [acc_eq W CW CB D b q x4 x5 x6 x7 tl e4 e5 e6 e7 h hb hh t ht etl r d 11 le_rfl, yR_apply, show 256 * 11 = 2816 from rfl, Finset.sum_range]
  refine Finset.sum_congr rfl fun j _ => ?_
  rw [show Fin.ofNat 2816 j.val = j from Fin.ext (Nat.mod_eq_of_lt j.isLt)]
  rfl
end

variable (t : ℕ) (ht : t % 8 = q.val)
variable (etl : q.val ≠ 0 → ∀ (r : Fin 8) (j : Fin 2816), tl (ix2 r j) = upR (hR X G SC SH) W (ix3 b (⟨512 * q.val + r.val - 8, before_lt q r⟩ : Fin 4096) (⟨j.val, half_lt j⟩ : Fin 5632)))

include ht e0 e1 e2 e3 e4 e5 e6 e7 e8 e9 etl in
/-- A tile's output is the reference's. -/
theorem out_eq (r : Fin 512) (d : Fin 1024) :
    ffnOut t x0 x1 x2 x3 x4 x5 x6 x7 x8 x9 tl (ix2 r d) = ffnR X G SC SH W CW CB D GO GT (ix2 (⟨4096 * b.val + (srow q r).val, by omega⟩ : Fin 65536) d) := by
  have hh := hb_eq X G SC SH b q x0 x1 x2 x3 e0 e1 e2 e3
  have hy := y_eq W CW CB D b q x4 x5 x6 x7 tl e4 e5 e6 e7 (hR X G SC SH) (k0_pay3 x0 x1 x2 x3) hh t ht etl
  unfold ffnOut ffnR
  rw [pay1_apply, oR_apply, pay2_apply, pay91_apply, e0, e8, e9, hy]
  simp only [hy]
end

end Cert.Ffn.KernelIdeal

end
-- ==== Proof.FfnValue.lean ====
/-
  The array the feed-forward grid's write-backs leave is the reference's result.
-/
module

public import proofs.«01_k».proof.Proof.FfnMatch
public import proofs.«01_k».proof.Proof.FfnLaunch
public import Idealize.ShloMosaic.Lib.Pipeline.ValueKit

@[expose] public section

set_option maxRecDepth 16384

noncomputable section

namespace Cert.Ffn.KernelIdeal

open Idealize.ShloMosaic Idealize.ShloMosaic.TcCoe Idealize.SL.Sem Idealize.ShloMosaic.Tactic
open Cert.Kernel2Ideal Cert.Kernel2Ideal.Gen Cert.Fox Cert.Ffn.ReferenceIdeal

theorem idx0 : ∀ t : Fin cfg0.N, win0_0.index t = ![t.val, 0] ∧ win0_1.index t = ![0, 0] ∧ win0_2.index t = ![t.val / 8, 0, 0] ∧ win0_3.index t = ![t.val / 8, 0, 0]
    ∧ win0_4.index t = ![0, 0] ∧ win0_5.index t = ![0, 0] ∧ win0_6.index t = ![0, 0] ∧ win0_7.index t = ![0, 0] ∧ win0_8.index t = ![0, 0]
    ∧ win0_9.index t = ![t.val / 8, 0, 0] ∧ win0_10.index t = ![t.val, 0] :=
  (by decide +kernel : ∀ t : Fin grid0.N, _)

theorem lt0 (t : Fin cfg0.N) : t.val < 128 := t.isLt.trans_eq N_0

section
variable (V : (c : Dev nD) → (b : Ref sig .tc) → Buf (Elt Ideal) ((c : Thread nD τ).loc b)) (c : Dev nD)

theorem iblk0_0 (t : Fin cfg0.N) (r : Fin 512) (d : Fin 1024) :
    iblk0 V c 0 t (ix2 r d) = V c main_v0 (ix2 (⟨512 * t.val + r.val, by have := lt0 t; omega⟩ : Fin 65536) d) := by
  blk_ext! [iblk0, idx0 t]
theorem iblk0_1 (t : Fin cfg0.N) (d : Fin 1024) : iblk0 V c 1 t (ix2 (0 : Fin 1) d) = V c main_v1 (ix2 (0 : Fin 1) d) := by
  blk_ext! [iblk0, idx0 t]
theorem iblk0_2 (t : Fin cfg0.N) (d : Fin 1024) : iblk0 V c 2 t (ix3 (0 : Fin 1) (0 : Fin 1) d) = V c main_arg2 (ix3 (⟨t.val / 8, by have := lt0 t; omega⟩ : Fin 16) (0 : Fin 1) d) := by
  blk_ext! [iblk0, idx0 t]
theorem iblk0_3 (t : Fin cfg0.N) (d : Fin 1024) : iblk0 V c 3 t (ix3 (0 : Fin 1) (0 : Fin 1) d) = V c main_arg3 (ix3 (⟨t.val / 8, by have := lt0 t; omega⟩ : Fin 16) (0 : Fin 1) d) := by
  blk_ext! [iblk0, idx0 t]
theorem iblk0_4 (t : Fin cfg0.N) (e : Fin 1024) (j : Fin 5632) : iblk0 V c 4 t (ix2 e j) = V c main_v2 (ix2 e j) := by
  blk_ext! [iblk0, idx0 t]
theorem iblk0_5 (t : Fin cfg0.N) (k : Fin 3) (j : Fin 2816) : iblk0 V c 5 t (ix2 k j) = V c main_arg5 (ix2 k j) := by
  blk_ext! [iblk0, idx0 t]
theorem iblk0_6 (t : Fin cfg0.N) (j : Fin 2816) : iblk0 V c 6 t (ix2 (0 : Fin 1) j) = V c main_v3 (ix2 (0 : Fin 1) j) := by
  blk_ext! [iblk0, idx0 t]
theorem iblk0_7 (t : Fin cfg0.N) (j : Fin 2816) (d : Fin 1024) : iblk0 V c 7 t (ix2 j d) = V c main_v4 (ix2 j d) := by
  blk_ext! [iblk0, idx0 t]
theorem iblk0_8 (t : Fin cfg0.N) (d : Fin 1024) : iblk0 V c 8 t (ix2 (0 : Fin 1) d) = V c main_v5 (ix2 (0 : Fin 1) d) := by
  blk_ext! [iblk0, idx0 t]
theorem iblk0_9 (t : Fin cfg0.N) (d : Fin 1024) : iblk0 V c 9 t (ix3 (0 : Fin 1) (0 : Fin 1) d) = V c main_arg9 (ix3 (⟨t.val / 8, by have := lt0 t; omega⟩ : Fin 16) (0 : Fin 1) d) := by
  blk_ext! [iblk0, idx0 t]
end

/-! ## What the host hands over -/

theorem flat_apply (x : FVec Ideal S16x4096x1024 .f32) (b : Fin 16) (s : Fin 4096) (d : Fin 1024) :
    shapeCast S65536x1024 x shapeCasts_S16x4096x1024_S65536x1024 (ix2 (⟨4096 * b.val + s.val, by omega⟩ : Fin 65536) d) = x (ix3 b s d) := by
  pointwise []
theorem row_apply (g : FVec Ideal S1024 .f32) (d : Fin 1024) : shapeCast S1x1024 g shapeCasts_S1024_S1x1024 (ix2 (0 : Fin 1) d) = g (ix1 d) := by
  pointwise []
theorem bias_apply (g : FVec Ideal S2816 .f32) (d : Fin 2816) : shapeCast S1x2816 g shapeCasts_S2816_S1x2816 (ix2 (0 : Fin 1) d) = g (ix1 d) := by
  pointwise []

section
variable (m : (ℓ : Loc nD τ sig) → Buf (Elt Ideal) ℓ) (ρ : Dev nD → PrngReg) (c : Dev nD)

theorem V1_v0 : V1 m ρ c main_v0 = shapeCast S65536x1024 (m ((c : Thread nD τ).loc main_arg0)) shapeCasts_S16x4096x1024_S65536x1024 := by
  show W1 m ρ c (Proc.devRef .tc main_v0) = _
  after_results_simp <;> rfl
theorem V1_v1 : V1 m ρ c main_v1 = shapeCast S1x1024 (m ((c : Thread nD τ).loc main_arg1)) shapeCasts_S1024_S1x1024 := by
  show W1 m ρ c (Proc.devRef .tc main_v1) = _
  after_results_simp <;> rfl
theorem V1_v2 : V1 m ρ c main_v2 = truncf (F := Ideal) .bf16 (m ((c : Thread nD τ).loc main_arg4)) bitsLt_bf16_f32 := by
  show W1 m ρ c (Proc.devRef .tc main_v2) = _
  after_results_simp <;> rfl
theorem V1_v3 : V1 m ρ c main_v3 = shapeCast S1x2816 (m ((c : Thread nD τ).loc main_arg6)) shapeCasts_S2816_S1x2816 := by
  show W1 m ρ c (Proc.devRef .tc main_v3) = _
  after_results_simp <;> rfl
theorem V1_v4 : V1 m ρ c main_v4 = truncf (F := Ideal) .bf16 (m ((c : Thread nD τ).loc main_arg7)) bitsLt_bf16_f32 := by
  show W1 m ρ c (Proc.devRef .tc main_v4) = _
  after_results_simp <;> rfl
theorem V1_v5 : V1 m ρ c main_v5 = shapeCast S1x1024 (m ((c : Thread nD τ).loc main_arg8)) shapeCasts_S1024_S1x1024 := by
  show W1 m ρ c (Proc.devRef .tc main_v5) = _
  after_results_simp <;> rfl
theorem V1_arg2 : V1 m ρ c main_arg2 = m ((c : Thread nD τ).loc main_arg2) := W1_args m ρ c main_arg2 (by decide)
theorem V1_arg3 : V1 m ρ c main_arg3 = m ((c : Thread nD τ).loc main_arg3) := W1_args m ρ c main_arg3 (by decide)
theorem V1_arg5 : V1 m ρ c main_arg5 = m ((c : Thread nD τ).loc main_arg5) := W1_args m ρ c main_arg5 (by decide)
theorem V1_arg9 : V1 m ρ c main_arg9 = m ((c : Thread nD τ).loc main_arg9) := W1_args m ρ c main_arg9 (by decide)

/-- The sub-layer's value at the arguments. -/
def val : FVec Ideal S65536x1024 .f32 :=
  ffnR (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- Tile `t`'s sequence. -/
abbrev seqOf (t : Fin cfg0.N) : Fin 16 := ⟨t.val / 8, by have := lt0 t; omega⟩
/-- Tile `t`'s place in its sequence. -/
abbrev posOf (t : Fin cfg0.N) : Fin 8 := ⟨t.val % 8, Nat.mod_lt _ (by decide)⟩

theorem blk_x (t : Fin cfg0.N) (r : Fin 512) (d : Fin 1024) :
    iblk0 (V1 m ρ) c 0 t (ix2 r d) = m ((c : Thread nD τ).loc main_arg0) (ix3 (seqOf t) (srow (posOf t) r) d) := by
  rw [iblk0_0, V1_v0]
  refine Eq.trans ?_ (flat_apply (m ((c : Thread nD τ).loc main_arg0)) (seqOf t) (srow (posOf t) r) d)
  refine congrArg (fun z => shapeCast S65536x1024 (m ((c : Thread nD τ).loc main_arg0)) shapeCasts_S16x4096x1024_S65536x1024 (ix2 z d)) (Fin.ext ?_)
  show 512 * t.val + r.val = 4096 * (t.val / 8) + (512 * (t.val % 8) + r.val)
  omega
theorem blk_g (t : Fin cfg0.N) (d : Fin 1024) : iblk0 (V1 m ρ) c 1 t (ix2 (0 : Fin 1) d) = m ((c : Thread nD τ).loc main_arg1) (ix1 d) := by
  rw [iblk0_1, V1_v1]; exact row_apply _ d
theorem blk_sc (t : Fin cfg0.N) (d : Fin 1024) : iblk0 (V1 m ρ) c 2 t (ix3 (0 : Fin 1) (0 : Fin 1) d) = m ((c : Thread nD τ).loc main_arg2) (ix3 (seqOf t) (0 : Fin 1) d) := by
  rw [iblk0_2, V1_arg2]
theorem blk_sh (t : Fin cfg0.N) (d : Fin 1024) : iblk0 (V1 m ρ) c 3 t (ix3 (0 : Fin 1) (0 : Fin 1) d) = m ((c : Thread nD τ).loc main_arg3) (ix3 (seqOf t) (0 : Fin 1) d) := by
  rw [iblk0_3, V1_arg3]
theorem blk_w (t : Fin cfg0.N) (e : Fin 1024) (j : Fin 5632) : iblk0 (V1 m ρ) c 4 t (ix2 e j) = m ((c : Thread nD τ).loc main_arg4) (ix2 e j) := by
  rw [iblk0_4, V1_v2]; rfl
theorem blk_cw (t : Fin cfg0.N) (k : Fin 3) (j : Fin 2816) : iblk0 (V1 m ρ) c 5 t (ix2 k j) = m ((c : Thread nD τ).loc main_arg5) (ix2 k j) := by
  rw [iblk0_5, V1_arg5]
theorem blk_cb (t : Fin cfg0.N) (j : Fin 2816) : iblk0 (V1 m ρ) c 6 t (ix2 (0 : Fin 1) j) = m ((c : Thread nD τ).loc main_arg6) (ix1 j) := by
  rw [iblk0_6, V1_v3]; exact bias_apply _ j
theorem blk_d (t : Fin cfg0.N) (j : Fin 2816) (d : Fin 1024) : iblk0 (V1 m ρ) c 7 t (ix2 j d) = m ((c : Thread nD τ).loc main_arg7) (ix2 j d) := by
  rw [iblk0_7, V1_v4]; rfl
theorem blk_go (t : Fin cfg0.N) (d : Fin 1024) : iblk0 (V1 m ρ) c 8 t (ix2 (0 : Fin 1) d) = m ((c : Thread nD τ).loc main_arg8) (ix1 d) := by
  rw [iblk0_8, V1_v5]; exact row_apply _ d
theorem blk_gt (t : Fin cfg0.N) (d : Fin 1024) : iblk0 (V1 m ρ) c 9 t (ix3 (0 : Fin 1) (0 : Fin 1) d) = m ((c : Thread nD τ).loc main_arg9) (ix3 (seqOf t) (0 : Fin 1) d) := by
  rw [iblk0_9, V1_arg9]

/-- The rows a tile that is not its sequence's first finds are the eight before its own. -/
theorem rows_eq (t : Fin cfg0.N) (hq : (posOf t).val ≠ 0) (r : Fin 8) (j : Fin 2816) :
    rows (V1 m ρ) c t.val (ix2 r j) = upR (F := Ideal) (hR (m ((c : Thread nD τ).loc main_arg0)) (m ((c : Thread nD τ).loc main_arg1)) (m ((c : Thread nD τ).loc main_arg2)) (m ((c : Thread nD τ).loc main_arg3))) (m ((c : Thread nD τ).loc main_arg4))
      (ix3 (seqOf t) (⟨512 * (posOf t).val + r.val - 8, before_lt (posOf t) r⟩ : Fin 4096) (⟨j.val, half_lt j⟩ : Fin 5632)) := by
  have ht := lt0 t
  have hq' : t.val % 8 ≠ 0 := hq
  have hp : (prev t.val).val = t.val - 1 := by show (t.val + 127) % 128 = t.val - 1; omega
  have hs : seqOf (prev t.val) = seqOf t := Fin.ext (by show (prev t.val).val / 8 = t.val / 8; rw [hp]; omega)
  have hk : (posOf (prev t.val)).val = t.val % 8 - 1 := by show (prev t.val).val % 8 = _; rw [hp]; omega
  unfold rows
  refine (tail_eq _ (seqOf (prev t.val)) (posOf (prev t.val)) _ (blk_w m ρ c (prev t.val)) _ _
    (hb_eq _ _ _ _ (seqOf (prev t.val)) (posOf (prev t.val)) _ _ _ _ (blk_x m ρ c (prev t.val)) (blk_g m ρ c (prev t.val)) (blk_sc m ρ c (prev t.val)) (blk_sh m ρ c (prev t.val))) r j).trans ?_
  rw [hs]
  refine congrArg (fun z : Fin 4096 => upR (F := Ideal) (hR (m ((c : Thread nD τ).loc main_arg0)) (m ((c : Thread nD τ).loc main_arg1)) (m ((c : Thread nD τ).loc main_arg2)) (m ((c : Thread nD τ).loc main_arg3))) (m ((c : Thread nD τ).loc main_arg4))
    (ix3 (seqOf t) z (⟨j.val, by omega⟩ : Fin 5632))) (Fin.ext ?_)
  show 512 * (posOf (prev t.val)).val + (504 + r.val) = 512 * (t.val % 8) + r.val - 8
  rw [hk]; omega

/-- A block's element is the reference's. -/
theorem block_eq (t : Fin cfg0.N) (r : Fin 512) (d : Fin 1024) :
    outsAt0 (V1 m ρ) c t (ix2 r d) = val m c (ix2 (⟨512 * t.val + r.val, by have := lt0 t; omega⟩ : Fin 65536) d) := by
  unfold outsAt0
  refine (out_eq _ _ _ _ _ _ _ _ _ _ (seqOf t) (posOf t) _ _ _ _ _ _ _ _ _ _ _ (blk_x m ρ c t) (blk_g m ρ c t) (blk_sc m ρ c t) (blk_sh m ρ c t) (blk_w m ρ c t) (blk_cw m ρ c t) (blk_cb m ρ c t)
    (blk_d m ρ c t) (blk_go m ρ c t) (blk_gt m ρ c t) t.val rfl (rows_eq m ρ c t) r d).trans ?_
  refine congrArg (fun z => val m c (ix2 z d)) (Fin.ext ?_)
  show 4096 * (t.val / 8) + (512 * (t.val % 8) + r.val) = 512 * t.val + r.val
  omega

/-- The output array is the reference's. -/
theorem final0 : (dat0 (V1 m ρ) c).arrAt 10 cfg0.N = val m c := by
  refine (dat0 (V1 m ρ) c).arrAt_eq_of_covers 10 _ (by decide +kernel) fun t hf y => ?_
  have hy : y = ix2 (⟨(y 0).val, (y 0).isLt⟩ : Fin 512) (⟨(y 1).val, (y 1).isLt⟩ : Fin 1024) := by
    funext a
    match a with
    | ⟨0, _⟩ => rfl
    | ⟨1, _⟩ => rfl
  blk_simp
  rw [after0_10]
  conv_lhs => rw [hy]
  rw [block_eq]
  refine congrArg (val m c) (funext fun a => Fin.ext ?_)
  match a with
  | ⟨0, _⟩ => blk_simp [idx0 t]; exact congrArg (· + (y 0).val) (Nat.mul_comm _ _)
  | ⟨1, _⟩ => blk_simp [idx0 t]; rfl
end

/-- The output array is the reference's result at memories that agree on the arguments. -/
theorem final (m : (ℓ : Loc nD τ sig) → Buf (Elt Ideal) ℓ) (ρ : Dev nD → PrngReg) (c : Dev nD)
    (m' : (ℓ : Loc Cert.Reference2Ideal.nD Cert.Reference2Ideal.τ Cert.Reference2Ideal.sig) → Buf (Elt Ideal) ℓ)
    (h0 : m' ((c.tc : Thread Cert.Reference2Ideal.nD Cert.Reference2Ideal.τ).loc Cert.Reference2Ideal.main_arg0) = m ((c : Thread nD τ).loc main_arg0))
    (h1 : m' ((c.tc : Thread Cert.Reference2Ideal.nD Cert.Reference2Ideal.τ).loc Cert.Reference2Ideal.main_arg1) = m ((c : Thread nD τ).loc main_arg1))
    (h2 : m' ((c.tc : Thread Cert.Reference2Ideal.nD Cert.Reference2Ideal.τ).loc Cert.Reference2Ideal.main_arg2) = m ((c : Thread nD τ).loc main_arg2))
    (h3 : m' ((c.tc : Thread Cert.Reference2Ideal.nD Cert.Reference2Ideal.τ).loc Cert.Reference2Ideal.main_arg3) = m ((c : Thread nD τ).loc main_arg3))
    (h4 : m' ((c.tc : Thread Cert.Reference2Ideal.nD Cert.Reference2Ideal.τ).loc Cert.Reference2Ideal.main_arg4) = m ((c : Thread nD τ).loc main_arg4))
    (h5 : m' ((c.tc : Thread Cert.Reference2Ideal.nD Cert.Reference2Ideal.τ).loc Cert.Reference2Ideal.main_arg5) = m ((c : Thread nD τ).loc main_arg5))
    (h6 : m' ((c.tc : Thread Cert.Reference2Ideal.nD Cert.Reference2Ideal.τ).loc Cert.Reference2Ideal.main_arg6) = m ((c : Thread nD τ).loc main_arg6))
    (h7 : m' ((c.tc : Thread Cert.Reference2Ideal.nD Cert.Reference2Ideal.τ).loc Cert.Reference2Ideal.main_arg7) = m ((c : Thread nD τ).loc main_arg7))
    (h8 : m' ((c.tc : Thread Cert.Reference2Ideal.nD Cert.Reference2Ideal.τ).loc Cert.Reference2Ideal.main_arg8) = m ((c : Thread nD τ).loc main_arg8))
    (h9 : m' ((c.tc : Thread Cert.Reference2Ideal.nD Cert.Reference2Ideal.τ).loc Cert.Reference2Ideal.main_arg9) = m ((c : Thread nD τ).loc main_arg9)) :
    (dat0 (V1 m ρ) c).arrAt 10 cfg0.N = Cert.Reference2Ideal.Value.res_main_v77 m' c := by
  refine (final0 m ρ c).trans (Eq.trans ?_ (res_eq m' c).symm)
  rw [h0, h1, h2, h3, h4, h5, h6, h7, h8, h9]
  rfl

end Cert.Ffn.KernelIdeal

end
-- ==== Proof.lean ====
module

public import proofs.«01_k».proof.Defs
public import proofs.«01_k».proof.Proof.FloatLaunch
public import proofs.«01_k».proof.Proof.IdealLaunch
public import proofs.«01_k».proof.Proof.IdealValue
public import proofs.«01_k».proof.Proof.FloatFfnLaunch
public import proofs.«01_k».proof.Proof.FfnLaunch
public import proofs.«01_k».proof.Proof.FfnValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2.Launch
public import proofs.«01_k».proof.Proof.Gen.Kernel2.Skeleton
public import proofs.«01_k».proof.Proof.Gen.Kernel2.Points
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Reference2Ideal
public import proofs.«01_k».proof.Proof.Gen.Reference2Ideal.Run
public import Idealize.ShloMosaic.Adequacy
public import Idealize.ShloMosaic.Init

@[expose] public section

noncomputable section

namespace Cert.Proof

open Idealize.ShloMosaic Idealize.SL.Sem

/-- The kernel's frame: its run at machine floats, read at the arguments and the counters. -/
theorem frame_p : Cert.quiescent_Kernel := fun m ρ _ =>
  (θ_run Cert.Kernel.defs _ _).mono
    (fun _ h => ⟨fun c => ⟨(h.1 c).1, (h.1 c).2.1, (h.1 c).2.2.1, (h.1 c).2.2.2.1, (h.1 c).2.2.2.2.1⟩, h.2⟩)
    (Cert.Fox.Kernel.run (F := Bits) m ρ)

/-- The idealized kernel's frame: the same run at extended reals. -/
theorem frame_pi : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.Fox.KernelIdeal.run (F := Ideal) m ρ)

/-- The reference's frame: its run read at the arguments; it declares no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result is the reference's, over extended reals. -/
theorem algebraic_pi_ri : Cert.algebraic_KernelIdeal_ReferenceIdeal_pre_finite (hPre_finite := Cert.Fox.Finite.facts) := fun m ρ m' ρ' hpre hargs =>
  ⟨fun c => (Cert.Fox.KernelIdeal.dat1 (Cert.Fox.KernelIdeal.V3 m ρ) c).arrAt 3 Cert.KernelIdeal.cfg1.N,
    (θ_run Cert.KernelIdeal.defs _ _).mono
      (fun _ h c => ⟨(h.1 c).2.2.2.2.2, (h.1 c).1, (h.1 c).2.1, (h.1 c).2.2.1, (h.1 c).2.2.2.1, (h.1 c).2.2.2.2.1⟩)
      (Cert.Fox.KernelIdeal.run (F := Ideal) m ρ),
    (θ_run Cert.ReferenceIdeal.defs _ _).mono
      (fun _ h c => ⟨(h c).1.trans (Cert.Fox.KernelIdeal.final (hPre := Cert.Fox.Finite.facts) m ρ c m' (hpre c) (hargs c).1 (hargs c).2.1 (hargs c).2.2.1 (hargs c).2.2.2.1 (hargs c).2.2.2.2).symm, (h c).2⟩)
      (Cert.ReferenceIdeal.Value.run (F := Ideal) m' ρ')⟩

/-- The feed-forward sub-layer's frame: its run at machine floats. -/
theorem frame_p2 : Cert.quiescent_Kernel2 := fun m ρ _ =>
  (θ_run Cert.Kernel2.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1⟩, h.2⟩)
    (Cert.Ffn.Kernel.run (F := Bits) m ρ)

/-- The same run at extended reals. -/
theorem frame_pi2 : Cert.quiescent_Kernel2Ideal := fun m ρ _ =>
  (θ_run Cert.Kernel2Ideal.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1⟩, h.2⟩)
    (Cert.Ffn.KernelIdeal.run (F := Ideal) m ρ)

/-- The sub-layer's reference's frame. -/
theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The sub-layer's result is its reference's, over extended reals. -/
theorem algebraic_pi2_ri2 : Cert.algebraic_Kernel2Ideal_Reference2Ideal := fun m ρ m' ρ' _ hargs =>
  ⟨fun c => (Cert.Ffn.KernelIdeal.dat0 (Cert.Ffn.KernelIdeal.V1 m ρ) c).arrAt 10 Cert.Kernel2Ideal.cfg0.N,
    (θ_run Cert.Kernel2Ideal.defs _ _).mono
      (fun _ h c => ⟨(h.1 c).2.2.2.2.2.2.2.2.2.2, (h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1⟩)
      (Cert.Ffn.KernelIdeal.run (F := Ideal) m ρ),
    (θ_run Cert.Reference2Ideal.defs _ _).mono
      (fun _ h c => ⟨(h c).1.trans (Cert.Ffn.KernelIdeal.final m ρ c m' (hargs c).1 (hargs c).2.1 (hargs c).2.2.1 (hargs c).2.2.2.1 (hargs c).2.2.2.2.1 (hargs c).2.2.2.2.2.1 (hargs c).2.2.2.2.2.2.1 (hargs c).2.2.2.2.2.2.2.1 (hargs c).2.2.2.2.2.2.2.2.1 (hargs c).2.2.2.2.2.2.2.2.2).symm, (h c).2⟩)
      (Cert.Reference2Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Fox.Finite.facts,
  frame_p, frame_pi, fun m ρ _ => frame_pi m ρ trivial, frame_ri, fun m ρ _ => frame_ri m ρ trivial,
  frame_p2, frame_pi2, frame_ri2,
  IdealRules.named_const.statement Cert.KernelIdeal.κ "mask" .f32 0xF149F2CA#32 ⊥ rfl, algebraic_pi_ri,
  trivial, algebraic_pi2_ri2⟩

end Cert.Proof

end
